-- ==== Defs.lean ====
def Pre_Kernel (m : (ℓ : Loc Cert.Kernel.nD Cert.Kernel.τ Cert.Kernel.sig) → Buf (Elt Bits) ℓ) : Prop :=
  True

def Pre_Kernel_finite_and_no_tie [hPre_finite_and_no_tie : Cert.Pre_finite_and_no_tie.Facts] (m : (ℓ : Loc Cert.Kernel.nD Cert.Kernel.τ Cert.Kernel.sig) → Buf (Elt Bits) ℓ) : Prop :=
  ∀ c : Dev Cert.Kernel.nD,
    (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_finite_and_no_tie [hKernel : Cert.Kernel.Facts] [hPre_finite_and_no_tie : Cert.Pre_finite_and_no_tie.Facts] : Prop :=
  ∀ (m : (ℓ : Loc Cert.Kernel.nD Cert.Kernel.τ Cert.Kernel.sig) → Buf (Elt Bits) ℓ) (g : Dev Cert.Kernel.nD → PrngReg), Pre_Kernel_finite_and_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_Kernel_pre_finite_and_no_tie (hKernel := hKernel) (hPre_finite_and_no_tie := hPre_finite_and_no_tie)
    ∧ quiescent_KernelIdeal (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal (hKernelIdeal := hKernelIdeal) (hReferenceIdeal := hReferenceIdeal) (hPre_finite_and_no_tie := hPre_finite_and_no_tie)
-- ==== Pre_finite_and_no_tie.lean ====
abbrev S8x512x1024 : Shape := ⟨3, ![8, 512, 1024]⟩
abbrev S6x1024x512 : Shape := ⟨3, ![6, 1024, 512]⟩
abbrev S_ : Shape := ⟨0, ![]⟩
abbrev S8x1024x512 : Shape := ⟨3, ![8, 1024, 512]⟩
abbrev S8192x512 : Shape := ⟨2, ![8192, 512]⟩
abbrev S1x1024x512 : Shape := ⟨3, ![1, 1024, 512]⟩
abbrev S1024x512 : Shape := ⟨2, ![1024, 512]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x8192 : Shape := ⟨2, ![1, 8192]⟩
abbrev S6x8192 : Shape := ⟨2, ![6, 8192]⟩

class Facts : Prop where
  bcast_S_S6x1024x512 : S_.BroadcastsInDim S6x1024x512 (![] : Fin 0 → Fin S6x1024x512.rank)
  transposes_S8x512x1024_S8x1024x512_0_2_1 : S8x512x1024.Transposes [0, 2, 1] S8x1024x512
  shapeCasts_S8x1024x512_S8192x512 : S8x1024x512.ShapeCasts S8192x512
  slices_S6x1024x512_S1x1024x512_0_0_0 : S6x1024x512.Slices ![0, 0, 0] S1x1024x512
  shapeCasts_S1x1024x512_S1024x512 : S1x1024x512.ShapeCasts S1024x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x512 : S_.BroadcastsInDim S8192x512 (![] : Fin 0 → Fin S8192x512.rank)
  transposes_S1024x512_S512x1024_1_0 : S1024x512.Transposes [1, 0] S512x1024
  bcast_S8192x1_S8192x1024_0_1 : S8192x1.BroadcastsInDim S8192x1024 (![0, 1] : Fin 2 → Fin S8192x1024.rank)
  reducesTo_S1024x512_S1024_d1 : S1024x512.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x512_0 : S8192.BroadcastsInDim S8192x512 (![0] : Fin 1 → Fin S8192x512.rank)
  slices_S6x1024x512_S1x1024x512_1_0_0 : S6x1024x512.Slices ![1, 0, 0] S1x1024x512
  slices_S6x1024x512_S1x1024x512_2_0_0 : S6x1024x512.Slices ![2, 0, 0] S1x1024x512
  slices_S6x1024x512_S1x1024x512_3_0_0 : S6x1024x512.Slices ![3, 0, 0] S1x1024x512
  slices_S6x1024x512_S1x1024x512_4_0_0 : S6x1024x512.Slices ![4, 0, 0] S1x1024x512
  slices_S6x1024x512_S1x1024x512_5_0_0 : S6x1024x512.Slices ![5, 0, 0] S1x1024x512
  reducesTo_S6x1024x512_S_d0_1_2 : S6x1024x512.ReducesTo [0, 1, 2] S_
  bcast_S8192_S1x8192_1 : S8192.BroadcastsInDim S1x8192 (![1] : Fin 1 → Fin S1x8192.rank)
  concatenates_S1x8192_S1x8192_S1x8192_S1x8192_S1x8192_S1x8192_S6x8192_d0 : Shape.Concatenates [S1x8192, S1x8192, S1x8192, S1x8192, S1x8192, S1x8192] S6x8192 0
  reducesTo_S6x8192_S_d0_1 : S6x8192.ReducesTo [0, 1] S_
  dot_S8192x512_S512x1024_S8192x1024_1_0_0_1_n_n_wf : DotDims.WF S8192x512 S512x1024 S8192x1024 [1] [0] [0] [1] [] []
  gather_S1024x512_S8192x1_S8192x512_1_0_n_n_0_1_1512_wf : GatherDims.WF S1024x512 S8192x1 S8192x512 [1] [0] [] [0] [] 1 ![1, 512]

variable [Facts]

variable {F : FTy → Type} [FloatOps F]
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x512_S8192x1_S8192x512_1_0_n_n_0_1_1512 : GatherDims S1024x512 S8192x1 S8192x512 where
  offsetDims := [1]
  collapsedSliceDims := [0]
  operandBatchingDims := []
  startIndicesBatchingDims := []
  startIndexMap := [0]
  indexVectorDim := 1
  sliceSizes := ![1, 512]
  wf := gather_S1024x512_S8192x1_S8192x512_1_0_n_n_0_1_1512_wf

def fn_argmin {F : FTy → Type} [FloatOps F] (arg0 : FVec F S8192x1024 .f32) : IVec S8192 32 :=
  let v0 : IVec S8192x1024 32 := iotaInDim S8192x1024 32 1
  let cst : FVec F S_ .f32 := constant S_ .f32 0x7F800000#32
  let c : IVec S_ 32 := constantI S_ 32 0#32
  let v1_0 : FVec F S8192 .f32 := (fun x y u v j => (Host.argReduce reducer_argmin_f32_i32 x y u v reducesTo_S8192x1024_S8192_d1 h_S_ j).1) arg0 v0 cst c
  let v1_1 : IVec S8192 32 := (fun x y u v j => (Host.argReduce reducer_argmin_f32_i32 x y u v reducesTo_S8192x1024_S8192_d1 h_S_ j).2) arg0 v0 cst c
  v1_1

def fn_where {F : FTy → Type} [FloatOps F] (arg0 : IVec S8192 1) (arg1 : IVec S8192 32) (arg2 : IVec S8192 32) : IVec S8192 32 :=
  let v0 : IVec S8192 32 := select arg0 arg1 arg2
  v0

def fn_take {F : FTy → Type} [FloatOps F] (arg0 : FVec F S1024x512 .f32) (arg1 : IVec S8192 32) : FVec F S8192x512 .f32 :=
  let c : IVec S_ 32 := constantI S_ 32 0#32
  let v0 : IVec S8192 32 := broadcastInDim S8192 ![] bcast_S_S8192 c
  let v1 : IVec S8192 1 := cmpi .slt arg1 v0
  let c_0 : IVec S_ 32 := constantI S_ 32 1024#32
  let v2 : IVec S8192 32 := broadcastInDim S8192 ![] bcast_S_S8192 c_0
  let v3 : IVec S8192 32 := addi arg1 v2
  let v4 : IVec S8192 32 := fn_where (F := F) v1 v3 arg1
  let v5 : IVec S8192x1 32 := broadcastInDim S8192x1 ![0] bcast_S8192_S8192x1_0 v4
  let c_1 : IVec S1 32 := constantI S1 32 1023#32
  let c_2 : IVec S_ 32 := constantI S_ 32 0#32
  let v6 : IVec S8192x1 32 := broadcastInDim S8192x1 ![] bcast_S_S8192x1 c_2
  let v7 : IVec S8192x1 1 := cmpi .sge v5 v6
  let v8 : IVec S1x1 32 := broadcastInDim S1x1 ![1] bcast_S1_S1x1_1 c_1
  let v9 : IVec S8192x1 32 := broadcastInDim S8192x1 ![0, 1] bcast_S1x1_S8192x1_0_1 v8
  let v10 : IVec S8192x1 1 := cmpi .sle v5 v9
  let v11 : IVec S8192x1 1 := andi v7 v10
  let c_3 : IVec S_ 1 := constantI S_ 1 1#1
  let v12 : IVec S8192 1 := (fun x v => Host.reduce IntOp.andi x v reducesTo_S8192x1_S8192_d1 h_S_) v11 c_3
  let v13 : FVec F S8192x512 .f32 := (fun x i => Host.gather gather_S1024x512_S8192x1_S8192x512_1_0_n_n_0_1_1512 x i) arg0 v5
  let v14 : IVec S8192x512 1 := broadcastInDim S8192x512 ![0] bcast_S8192_S8192x512_0 v12
  let cst : FVec F S_ .f32 := constant S_ .f32 0x7FC00000#32
  let v15 : FVec F S8192x512 .f32 := broadcastInDim S8192x512 ![] bcast_S_S8192x512 cst
  let v16 : FVec F S8192x512 .f32 := select v14 v13 v15
  v16

def fn_part8 {F : FTy → Type} [FloatOps F] (main_v2 : IVec S6x1024x512 1) (main_v28 : IVec S8192 1) (main_v55 : IVec S8192 1) (main_v82 : IVec S8192 1) (main_v109 : IVec S8192 1) (main_v136 : IVec S8192 1) (main_v139 : FVec F S8192x512 .f32) (main_v141 : FVec F S1024x512 .f32) (main_v155 : FVec F S8192x1024 .f32) (main_v156 : FVec F S8192 .f32) : IVec S_ 1 :=
  let main_v157 : FVec F S8192x1 .f32 := broadcastInDim S8192x1 ![0] bcast_S8192_S8192x1_0 main_v156
  let main_v158 : FVec F S8192x1024 .f32 := broadcastInDim S8192x1024 ![0, 1] bcast_S8192x1_S8192x1024_0_1 main_v157
  let main_v159 : IVec S8192x1024 1 := cmpf .oeq main_v155 main_v158
  let main_v160 : IVec S8192x1024 32 := (extui 32 · natLt_1_32) main_v159
  let main_c_33 : IVec S_ 32 := constantI S_ 32 0#32
  let main_v161 : IVec S8192 32 := (fun x v => Host.reduce IntOp.addi x v reducesTo_S8192x1024_S8192_d1 h_S_) main_v160 main_c_33
  let main_c_34 : IVec S_ 32 := constantI S_ 32 1#32
  let main_v162 : IVec S8192 32 := broadcastInDim S8192 ![] bcast_S_S8192 main_c_34
  let main_v163 : IVec S8192 1 := cmpi .eq main_v161 main_v162
  let main_v164 : IVec S8192 32 := fn_argmin (F := F) main_v155
  let main_v165 : FVec F S8192x512 .f32 := fn_take (F := F) main_v141 main_v164
  let main_v166 : FVec F S8192x512 .f32 := subf main_v139 main_v165
  let main_c_35 : IVec S_ 1 := constantI S_ 1 1#1
  let main_v167 : IVec S_ 1 := (fun x v => Host.reduce IntOp.andi x v reducesTo_S6x1024x512_S_d0_1_2 h_S_) main_v2 main_c_35
  let main_v168 : IVec S1x8192 1 := broadcastInDim S1x8192 ![1] bcast_S8192_S1x8192_1 main_v28
  let main_v169 : IVec S1x8192 1 := broadcastInDim S1x8192 ![1] bcast_S8192_S1x8192_1 main_v55
  let main_v170 : IVec S1x8192 1 := broadcastInDim S1x8192 ![1] bcast_S8192_S1x8192_1 main_v82
  let main_v171 : IVec S1x8192 1 := broadcastInDim S1x8192 ![1] bcast_S8192_S1x8192_1 main_v109
  let main_v172 : IVec S1x8192 1 := broadcastInDim S1x8192 ![1] bcast_S8192_S1x8192_1 main_v136
  let main_v173 : IVec S1x8192 1 := broadcastInDim S1x8192 ![1] bcast_S8192_S1x8192_1 main_v163
  let main_v174 : IVec S6x8192 1 := concatenate S6x8192 0 [⟨S1x8192, main_v168⟩, ⟨S1x8192, main_v169⟩, ⟨S1x8192, main_v170⟩, ⟨S1x8192, main_v171⟩, ⟨S1x8192, main_v172⟩, ⟨S1x8192, main_v173⟩] concatenates_S1x8192_S1x8192_S1x8192_S1x8192_S1x8192_S1x8192_S6x8192_d0
  let main_c_36 : IVec S_ 1 := constantI S_ 1 1#1
  let main_v175 : IVec S_ 1 := (fun x v => Host.reduce IntOp.andi x v reducesTo_S6x8192_S_d0_1 h_S_) main_v174 main_c_36
  let main_v176 : IVec S_ 1 := andi main_v167 main_v175
  main_v176

def fn_part7 {F : FTy → Type} [FloatOps F] (main_arg1 : FVec F S6x1024x512 .f32) (main_v2 : IVec S6x1024x512 1) (main_v28 : IVec S8192 1) (main_v55 : IVec S8192 1) (main_v82 : IVec S8192 1) (main_v109 : IVec S8192 1) (main_v112 : FVec F S8192x512 .f32) (main_v114 : FVec F S1024x512 .f32) (main_v128 : FVec F S8192x1024 .f32) (main_v136 : IVec S8192 1) : IVec S_ 1 :=
  let main_v137 : IVec S8192 32 := fn_argmin (F := F) main_v128
  let main_v138 : FVec F S8192x512 .f32 := fn_take (F := F) main_v114 main_v137
  let main_v139 : FVec F S8192x512 .f32 := subf main_v112 main_v138
  let main_v140 : FVec F S1x1024x512 .f32 := (extractStridedSlice S1x1024x512 ![5, 0, 0] · slices_S6x1024x512_S1x1024x512_5_0_0) main_arg1
  let main_v141 : FVec F S1024x512 .f32 := shapeCast S1024x512 main_v140 shapeCasts_S1x1024x512_S1024x512
  let main_v142 : FVec F S8192x512 .f32 := mulf main_v139 main_v139
  let main_cst_29 : FVec F S_ .f32 := constant S_ .f32 0x00000000#32
  let main_v143 : FVec F S8192 .f32 := (fun x v => Host.reduceAdd x v reducesTo_S8192x512_S8192_d1 h_S_) main_v142 main_cst_29
  let main_v144 : FVec F S8192x1 .f32 := broadcastInDim S8192x1 ![0] bcast_S8192_S8192x1_0 main_v143
  let main_cst_30 : FVec F S_ .f32 := constant S_ .f32 0x40000000#32
  let main_v145 : FVec F S8192x512 .f32 := broadcastInDim S8192x512 ![] bcast_S_S8192x512 main_cst_30
  let main_v146 : FVec F S8192x512 .f32 := mulf main_v145 main_v139
  let main_v147 : FVec F S512x1024 .f32 := (transpose S512x1024 [1, 0] · transposes_S1024x512_S512x1024_1_0) main_v141
  let main_v148 : FVec F S8192x1024 .f32 := (fun l r => Host.dotGeneral dot_S8192x512_S512x1024_S8192x1024_1_0_0_1_n_n none l r) main_v146 main_v147
  let main_v149 : FVec F S8192x1024 .f32 := broadcastInDim S8192x1024 ![0, 1] bcast_S8192x1_S8192x1024_0_1 main_v144
  let main_v150 : FVec F S8192x1024 .f32 := subf main_v149 main_v148
  let main_v151 : FVec F S1024x512 .f32 := mulf main_v141 main_v141
  let main_cst_31 : FVec F S_ .f32 := constant S_ .f32 0x00000000#32
  let main_v152 : FVec F S1024 .f32 := (fun x v => Host.reduceAdd x v reducesTo_S1024x512_S1024_d1 h_S_) main_v151 main_cst_31
  let main_v153 : FVec F S1x1024 .f32 := broadcastInDim S1x1024 ![1] bcast_S1024_S1x1024_1 main_v152
  let main_v154 : FVec F S8192x1024 .f32 := broadcastInDim S8192x1024 ![0, 1] bcast_S1x1024_S8192x1024_0_1 main_v153
  let main_v155 : FVec F S8192x1024 .f32 := addf main_v150 main_v154
  let main_cst_32 : FVec F S_ .f32 := constant S_ .f32 0x7F800000#32
  let main_v156 : FVec F S8192 .f32 := (fun x v => Host.reduce FloatOps.minimumf x v reducesTo_S8192x1024_S8192_d1 h_S_) main_v155 main_cst_32
  fn_part8 (F := F) main_v2 main_v28 main_v55 main_v82 main_v109 main_v136 main_v139 main_v141 main_v155 main_v156

def fn_part6 {F : FTy → Type} [FloatOps F] (main_arg1 : FVec F S6x1024x512 .f32) (main_v2 : IVec S6x1024x512 1) (main_v28 : IVec S8192 1) (main_v55 : IVec S8192 1) (main_v82 : IVec S8192 1) (main_v109 : IVec S8192 1) (main_v112 : FVec F S8192x512 .f32) (main_v114 : FVec F S1024x512 .f32) (main_v117 : FVec F S8192x1 .f32) : IVec S_ 1 :=
  let main_cst_24 : FVec F S_ .f32 := constant S_ .f32 0x40000000#32
  let main_v118 : FVec F S8192x512 .f32 := broadcastInDim S8192x512 ![] bcast_S_S8192x512 main_cst_24
  let main_v119 : FVec F S8192x512 .f32 := mulf main_v118 main_v112
  let main_v120 : FVec F S512x1024 .f32 := (transpose S512x1024 [1, 0] · transposes_S1024x512_S512x1024_1_0) main_v114
  let main_v121 : FVec F S8192x1024 .f32 := (fun l r => Host.dotGeneral dot_S8192x512_S512x1024_S8192x1024_1_0_0_1_n_n none l r) main_v119 main_v120
  let main_v122 : FVec F S8192x1024 .f32 := broadcastInDim S8192x1024 ![0, 1] bcast_S8192x1_S8192x1024_0_1 main_v117
  let main_v123 : FVec F S8192x1024 .f32 := subf main_v122 main_v121
  let main_v124 : FVec F S1024x512 .f32 := mulf main_v114 main_v114
  let main_cst_25 : FVec F S_ .f32 := constant S_ .f32 0x00000000#32
  let main_v125 : FVec F S1024 .f32 := (fun x v => Host.reduceAdd x v reducesTo_S1024x512_S1024_d1 h_S_) main_v124 main_cst_25
  let main_v126 : FVec F S1x1024 .f32 := broadcastInDim S1x1024 ![1] bcast_S1024_S1x1024_1 main_v125
  let main_v127 : FVec F S8192x1024 .f32 := broadcastInDim S8192x1024 ![0, 1] bcast_S1x1024_S8192x1024_0_1 main_v126
  let main_v128 : FVec F S8192x1024 .f32 := addf main_v123 main_v127
  let main_cst_26 : FVec F S_ .f32 := constant S_ .f32 0x7F800000#32
  let main_v129 : FVec F S8192 .f32 := (fun x v => Host.reduce FloatOps.minimumf x v reducesTo_S8192x1024_S8192_d1 h_S_) main_v128 main_cst_26
  let main_v130 : FVec F S8192x1 .f32 := broadcastInDim S8192x1 ![0] bcast_S8192_S8192x1_0 main_v129
  let main_v131 : FVec F S8192x1024 .f32 := broadcastInDim S8192x1024 ![0, 1] bcast_S8192x1_S8192x1024_0_1 main_v130
  let main_v132 : IVec S8192x1024 1 := cmpf .oeq main_v128 main_v131
  let main_v133 : IVec S8192x1024 32 := (extui 32 · natLt_1_32) main_v132
  let main_c_27 : IVec S_ 32 := constantI S_ 32 0#32
  let main_v134 : IVec S8192 32 := (fun x v => Host.reduce IntOp.addi x v reducesTo_S8192x1024_S8192_d1 h_S_) main_v133 main_c_27
  let main_c_28 : IVec S_ 32 := constantI S_ 32 1#32
  let main_v135 : IVec S8192 32 := broadcastInDim S8192 ![] bcast_S_S8192 main_c_28
  let main_v136 : IVec S8192 1 := cmpi .eq main_v134 main_v135
  fn_part7 (F := F) main_arg1 main_v2 main_v28 main_v55 main_v82 main_v109 main_v112 main_v114 main_v128 main_v136

def fn_part5 {F : FTy → Type} [FloatOps F] (main_arg1 : FVec F S6x1024x512 .f32) (main_v2 : IVec S6x1024x512 1) (main_v28 : IVec S8192 1) (main_v55 : IVec S8192 1) (main_v82 : IVec S8192 1) (main_v85 : FVec F S8192x512 .f32) (main_v87 : FVec F S1024x512 .f32) (main_v96 : FVec F S8192x1024 .f32) (main_v97 : FVec F S1024x512 .f32) (main_cst_19 : FVec F S_ .f32) : IVec S_ 1 :=
  let main_v98 : FVec F S1024 .f32 := (fun x v => Host.reduceAdd x v reducesTo_S1024x512_S1024_d1 h_S_) main_v97 main_cst_19
  let main_v99 : FVec F S1x1024 .f32 := broadcastInDim S1x1024 ![1] bcast_S1024_S1x1024_1 main_v98
  let main_v100 : FVec F S8192x1024 .f32 := broadcastInDim S8192x1024 ![0, 1] bcast_S1x1024_S8192x1024_0_1 main_v99
  let main_v101 : FVec F S8192x1024 .f32 := addf main_v96 main_v100
  let main_cst_20 : FVec F S_ .f32 := constant S_ .f32 0x7F800000#32
  let main_v102 : FVec F S8192 .f32 := (fun x v => Host.reduce FloatOps.minimumf x v reducesTo_S8192x1024_S8192_d1 h_S_) main_v101 main_cst_20
  let main_v103 : FVec F S8192x1 .f32 := broadcastInDim S8192x1 ![0] bcast_S8192_S8192x1_0 main_v102
  let main_v104 : FVec F S8192x1024 .f32 := broadcastInDim S8192x1024 ![0, 1] bcast_S8192x1_S8192x1024_0_1 main_v103
  let main_v105 : IVec S8192x1024 1 := cmpf .oeq main_v101 main_v104
  let main_v106 : IVec S8192x1024 32 := (extui 32 · natLt_1_32) main_v105
  let main_c_21 : IVec S_ 32 := constantI S_ 32 0#32
  let main_v107 : IVec S8192 32 := (fun x v => Host.reduce IntOp.addi x v reducesTo_S8192x1024_S8192_d1 h_S_) main_v106 main_c_21
  let main_c_22 : IVec S_ 32 := constantI S_ 32 1#32
  let main_v108 : IVec S8192 32 := broadcastInDim S8192 ![] bcast_S_S8192 main_c_22
  let main_v109 : IVec S8192 1 := cmpi .eq main_v107 main_v108
  let main_v110 : IVec S8192 32 := fn_argmin (F := F) main_v101
  let main_v111 : FVec F S8192x512 .f32 := fn_take (F := F) main_v87 main_v110
  let main_v112 : FVec F S8192x512 .f32 := subf main_v85 main_v111
  let main_v113 : FVec F S1x1024x512 .f32 := (extractStridedSlice S1x1024x512 ![4, 0, 0] · slices_S6x1024x512_S1x1024x512_4_0_0) main_arg1
  let main_v114 : FVec F S1024x512 .f32 := shapeCast S1024x512 main_v113 shapeCasts_S1x1024x512_S1024x512
  let main_v115 : FVec F S8192x512 .f32 := mulf main_v112 main_v112
  let main_cst_23 : FVec F S_ .f32 := constant S_ .f32 0x00000000#32
  let main_v116 : FVec F S8192 .f32 := (fun x v => Host.reduceAdd x v reducesTo_S8192x512_S8192_d1 h_S_) main_v115 main_cst_23
  let main_v117 : FVec F S8192x1 .f32 := broadcastInDim S8192x1 ![0] bcast_S8192_S8192x1_0 main_v116
  fn_part6 (F := F) main_arg1 main_v2 main_v28 main_v55 main_v82 main_v109 main_v112 main_v114 main_v117

def fn_part4 {F : FTy → Type} [FloatOps F] (main_arg1 : FVec F S6x1024x512 .f32) (main_v2 : IVec S6x1024x512 1) (main_v28 : IVec S8192 1) (main_v55 : IVec S8192 1) (main_v58 : FVec F S8192x512 .f32) (main_v60 : FVec F S1024x512 .f32) (main_v74 : FVec F S8192x1024 .f32) (main_v78 : IVec S8192x1024 1) : IVec S_ 1 :=
  let main_v79 : IVec S8192x1024 32 := (extui 32 · natLt_1_32) main_v78
  let main_c_15 : IVec S_ 32 := constantI S_ 32 0#32
  let main_v80 : IVec S8192 32 := (fun x v => Host.reduce IntOp.addi x v reducesTo_S8192x1024_S8192_d1 h_S_) main_v79 main_c_15
  let main_c_16 : IVec S_ 32 := constantI S_ 32 1#32
  let main_v81 : IVec S8192 32 := broadcastInDim S8192 ![] bcast_S_S8192 main_c_16
  let main_v82 : IVec S8192 1 := cmpi .eq main_v80 main_v81
  let main_v83 : IVec S8192 32 := fn_argmin (F := F) main_v74
  let main_v84 : FVec F S8192x512 .f32 := fn_take (F := F) main_v60 main_v83
  let main_v85 : FVec F S8192x512 .f32 := subf main_v58 main_v84
  let main_v86 : FVec F S1x1024x512 .f32 := (extractStridedSlice S1x1024x512 ![3, 0, 0] · slices_S6x1024x512_S1x1024x512_3_0_0) main_arg1
  let main_v87 : FVec F S1024x512 .f32 := shapeCast S1024x512 main_v86 shapeCasts_S1x1024x512_S1024x512
  let main_v88 : FVec F S8192x512 .f32 := mulf main_v85 main_v85
  let main_cst_17 : FVec F S_ .f32 := constant S_ .f32 0x00000000#32
  let main_v89 : FVec F S8192 .f32 := (fun x v => Host.reduceAdd x v reducesTo_S8192x512_S8192_d1 h_S_) main_v88 main_cst_17
  let main_v90 : FVec F S8192x1 .f32 := broadcastInDim S8192x1 ![0] bcast_S8192_S8192x1_0 main_v89
  let main_cst_18 : FVec F S_ .f32 := constant S_ .f32 0x40000000#32
  let main_v91 : FVec F S8192x512 .f32 := broadcastInDim S8192x512 ![] bcast_S_S8192x512 main_cst_18
  let main_v92 : FVec F S8192x512 .f32 := mulf main_v91 main_v85
  let main_v93 : FVec F S512x1024 .f32 := (transpose S512x1024 [1, 0] · transposes_S1024x512_S512x1024_1_0) main_v87
  let main_v94 : FVec F S8192x1024 .f32 := (fun l r => Host.dotGeneral dot_S8192x512_S512x1024_S8192x1024_1_0_0_1_n_n none l r) main_v92 main_v93
  let main_v95 : FVec F S8192x1024 .f32 := broadcastInDim S8192x1024 ![0, 1] bcast_S8192x1_S8192x1024_0_1 main_v90
  let main_v96 : FVec F S8192x1024 .f32 := subf main_v95 main_v94
  let main_v97 : FVec F S1024x512 .f32 := mulf main_v87 main_v87
  let main_cst_19 : FVec F S_ .f32 := constant S_ .f32 0x00000000#32
  fn_part5 (F := F) main_arg1 main_v2 main_v28 main_v55 main_v82 main_v85 main_v87 main_v96 main_v97 main_cst_19

def fn_part3 {F : FTy → Type} [FloatOps F] (main_arg1 : FVec F S6x1024x512 .f32) (main_v2 : IVec S6x1024x512 1) (main_v28 : IVec S8192 1) (main_v55 : IVec S8192 1) (main_v58 : FVec F S8192x512 .f32) : IVec S_ 1 :=
  let main_v59 : FVec F S1x1024x512 .f32 := (extractStridedSlice S1x1024x512 ![2, 0, 0] · slices_S6x1024x512_S1x1024x512_2_0_0) main_arg1
  let main_v60 : FVec F S1024x512 .f32 := shapeCast S1024x512 main_v59 shapeCasts_S1x1024x512_S1024x512
  let main_v61 : FVec F S8192x512 .f32 := mulf main_v58 main_v58
  let main_cst_11 : FVec F S_ .f32 := constant S_ .f32 0x00000000#32
  let main_v62 : FVec F S8192 .f32 := (fun x v => Host.reduceAdd x v reducesTo_S8192x512_S8192_d1 h_S_) main_v61 main_cst_11
  let main_v63 : FVec F S8192x1 .f32 := broadcastInDim S8192x1 ![0] bcast_S8192_S8192x1_0 main_v62
  let main_cst_12 : FVec F S_ .f32 := constant S_ .f32 0x40000000#32
  let main_v64 : FVec F S8192x512 .f32 := broadcastInDim S8192x512 ![] bcast_S_S8192x512 main_cst_12
  let main_v65 : FVec F S8192x512 .f32 := mulf main_v64 main_v58
  let main_v66 : FVec F S512x1024 .f32 := (transpose S512x1024 [1, 0] · transposes_S1024x512_S512x1024_1_0) main_v60
  let main_v67 : FVec F S8192x1024 .f32 := (fun l r => Host.dotGeneral dot_S8192x512_S512x1024_S8192x1024_1_0_0_1_n_n none l r) main_v65 main_v66
  let main_v68 : FVec F S8192x1024 .f32 := broadcastInDim S8192x1024 ![0, 1] bcast_S8192x1_S8192x1024_0_1 main_v63
  let main_v69 : FVec F S8192x1024 .f32 := subf main_v68 main_v67
  let main_v70 : FVec F S1024x512 .f32 := mulf main_v60 main_v60
  let main_cst_13 : FVec F S_ .f32 := constant S_ .f32 0x00000000#32
  let main_v71 : FVec F S1024 .f32 := (fun x v => Host.reduceAdd x v reducesTo_S1024x512_S1024_d1 h_S_) main_v70 main_cst_13
  let main_v72 : FVec F S1x1024 .f32 := broadcastInDim S1x1024 ![1] bcast_S1024_S1x1024_1 main_v71
  let main_v73 : FVec F S8192x1024 .f32 := broadcastInDim S8192x1024 ![0, 1] bcast_S1x1024_S8192x1024_0_1 main_v72
  let main_v74 : FVec F S8192x1024 .f32 := addf main_v69 main_v73
  let main_cst_14 : FVec F S_ .f32 := constant S_ .f32 0x7F800000#32
  let main_v75 : FVec F S8192 .f32 := (fun x v => Host.reduce FloatOps.minimumf x v reducesTo_S8192x1024_S8192_d1 h_S_) main_v74 main_cst_14
  let main_v76 : FVec F S8192x1 .f32 := broadcastInDim S8192x1 ![0] bcast_S8192_S8192x1_0 main_v75
  let main_v77 : FVec F S8192x1024 .f32 := broadcastInDim S8192x1024 ![0, 1] bcast_S8192x1_S8192x1024_0_1 main_v76
  let main_v78 : IVec S8192x1024 1 := cmpf .oeq main_v74 main_v77
  fn_part4 (F := F) main_arg1 main_v2 main_v28 main_v55 main_v58 main_v60 main_v74 main_v78

def fn_part2 {F : FTy → Type} [FloatOps F] (main_arg1 : FVec F S6x1024x512 .f32) (main_v2 : IVec S6x1024x512 1) (main_v28 : IVec S8192 1) (main_v31 : FVec F S8192x512 .f32) (main_v33 : FVec F S1024x512 .f32) (main_v36 : FVec F S8192x1 .f32) (main_v38 : FVec F S8192x512 .f32) : IVec S_ 1 :=
  let main_v39 : FVec F S512x1024 .f32 := (transpose S512x1024 [1, 0] · transposes_S1024x512_S512x1024_1_0) main_v33
  let main_v40 : FVec F S8192x1024 .f32 := (fun l r => Host.dotGeneral dot_S8192x512_S512x1024_S8192x1024_1_0_0_1_n_n none l r) main_v38 main_v39
  let main_v41 : FVec F S8192x1024 .f32 := broadcastInDim S8192x1024 ![0, 1] bcast_S8192x1_S8192x1024_0_1 main_v36
  let main_v42 : FVec F S8192x1024 .f32 := subf main_v41 main_v40
  let main_v43 : FVec F S1024x512 .f32 := mulf main_v33 main_v33
  let main_cst_7 : FVec F S_ .f32 := constant S_ .f32 0x00000000#32
  let main_v44 : FVec F S1024 .f32 := (fun x v => Host.reduceAdd x v reducesTo_S1024x512_S1024_d1 h_S_) main_v43 main_cst_7
  let main_v45 : FVec F S1x1024 .f32 := broadcastInDim S1x1024 ![1] bcast_S1024_S1x1024_1 main_v44
  let main_v46 : FVec F S8192x1024 .f32 := broadcastInDim S8192x1024 ![0, 1] bcast_S1x1024_S8192x1024_0_1 main_v45
  let main_v47 : FVec F S8192x1024 .f32 := addf main_v42 main_v46
  let main_cst_8 : FVec F S_ .f32 := constant S_ .f32 0x7F800000#32
  let main_v48 : FVec F S8192 .f32 := (fun x v => Host.reduce FloatOps.minimumf x v reducesTo_S8192x1024_S8192_d1 h_S_) main_v47 main_cst_8
  let main_v49 : FVec F S8192x1 .f32 := broadcastInDim S8192x1 ![0] bcast_S8192_S8192x1_0 main_v48
  let main_v50 : FVec F S8192x1024 .f32 := broadcastInDim S8192x1024 ![0, 1] bcast_S8192x1_S8192x1024_0_1 main_v49
  let main_v51 : IVec S8192x1024 1 := cmpf .oeq main_v47 main_v50
  let main_v52 : IVec S8192x1024 32 := (extui 32 · natLt_1_32) main_v51
  let main_c_9 : IVec S_ 32 := constantI S_ 32 0#32
  let main_v53 : IVec S8192 32 := (fun x v => Host.reduce IntOp.addi x v reducesTo_S8192x1024_S8192_d1 h_S_) main_v52 main_c_9
  let main_c_10 : IVec S_ 32 := constantI S_ 32 1#32
  let main_v54 : IVec S8192 32 := broadcastInDim S8192 ![] bcast_S_S8192 main_c_10
  let main_v55 : IVec S8192 1 := cmpi .eq main_v53 main_v54
  let main_v56 : IVec S8192 32 := fn_argmin (F := F) main_v47
  let main_v57 : FVec F S8192x512 .f32 := fn_take (F := F) main_v33 main_v56
  let main_v58 : FVec F S8192x512 .f32 := subf main_v31 main_v57
  fn_part3 (F := F) main_arg1 main_v2 main_v28 main_v55 main_v58

def fn_part1 {F : FTy → Type} [FloatOps F] (main_arg1 : FVec F S6x1024x512 .f32) (main_v2 : IVec S6x1024x512 1) (main_v4 : FVec F S8192x512 .f32) (main_v6 : FVec F S1024x512 .f32) (main_v15 : FVec F S8192x1024 .f32) (main_v19 : FVec F S8192x1024 .f32) : IVec S_ 1 :=
  let main_v20 : FVec F S8192x1024 .f32 := addf main_v15 main_v19
  let main_cst_3 : FVec F S_ .f32 := constant S_ .f32 0x7F800000#32
  let main_v21 : FVec F S8192 .f32 := (fun x v => Host.reduce FloatOps.minimumf x v reducesTo_S8192x1024_S8192_d1 h_S_) main_v20 main_cst_3
  let main_v22 : FVec F S8192x1 .f32 := broadcastInDim S8192x1 ![0] bcast_S8192_S8192x1_0 main_v21
  let main_v23 : FVec F S8192x1024 .f32 := broadcastInDim S8192x1024 ![0, 1] bcast_S8192x1_S8192x1024_0_1 main_v22
  let main_v24 : IVec S8192x1024 1 := cmpf .oeq main_v20 main_v23
  let main_v25 : IVec S8192x1024 32 := (extui 32 · natLt_1_32) main_v24
  let main_c : IVec S_ 32 := constantI S_ 32 0#32
  let main_v26 : IVec S8192 32 := (fun x v => Host.reduce IntOp.addi x v reducesTo_S8192x1024_S8192_d1 h_S_) main_v25 main_c
  let main_c_4 : IVec S_ 32 := constantI S_ 32 1#32
  let main_v27 : IVec S8192 32 := broadcastInDim S8192 ![] bcast_S_S8192 main_c_4
  let main_v28 : IVec S8192 1 := cmpi .eq main_v26 main_v27
  let main_v29 : IVec S8192 32 := fn_argmin (F := F) main_v20
  let main_v30 : FVec F S8192x512 .f32 := fn_take (F := F) main_v6 main_v29
  let main_v31 : FVec F S8192x512 .f32 := subf main_v4 main_v30
  let main_v32 : FVec F S1x1024x512 .f32 := (extractStridedSlice S1x1024x512 ![1, 0, 0] · slices_S6x1024x512_S1x1024x512_1_0_0) main_arg1
  let main_v33 : FVec F S1024x512 .f32 := shapeCast S1024x512 main_v32 shapeCasts_S1x1024x512_S1024x512
  let main_v34 : FVec F S8192x512 .f32 := mulf main_v31 main_v31
  let main_cst_5 : FVec F S_ .f32 := constant S_ .f32 0x00000000#32
  let main_v35 : FVec F S8192 .f32 := (fun x v => Host.reduceAdd x v reducesTo_S8192x512_S8192_d1 h_S_) main_v34 main_cst_5
  let main_v36 : FVec F S8192x1 .f32 := broadcastInDim S8192x1 ![0] bcast_S8192_S8192x1_0 main_v35
  let main_cst_6 : FVec F S_ .f32 := constant S_ .f32 0x40000000#32
  let main_v37 : FVec F S8192x512 .f32 := broadcastInDim S8192x512 ![] bcast_S_S8192x512 main_cst_6
  let main_v38 : FVec F S8192x512 .f32 := mulf main_v37 main_v31
  fn_part2 (F := F) main_arg1 main_v2 main_v28 main_v31 main_v33 main_v36 main_v38

def fn {F : FTy → Type} [FloatOps F] (main_arg0 : FVec F S8x512x1024 .f32) (main_arg1 : FVec F S6x1024x512 .f32) : IVec S_ 1 :=
  let main_v0 : FVec F S6x1024x512 .f32 := Host.absf main_arg1
  let main_cst : FVec F S_ .f32 := constant S_ .f32 0x7F800000#32
  let main_v1 : FVec F S6x1024x512 .f32 := broadcastInDim S6x1024x512 ![] bcast_S_S6x1024x512 main_cst
  let main_v2 : IVec S6x1024x512 1 := cmpf .olt main_v0 main_v1
  let main_v3 : FVec F S8x1024x512 .f32 := (transpose S8x1024x512 [0, 2, 1] · transposes_S8x512x1024_S8x1024x512_0_2_1) main_arg0
  let main_v4 : FVec F S8192x512 .f32 := shapeCast S8192x512 main_v3 shapeCasts_S8x1024x512_S8192x512
  let main_v5 : FVec F S1x1024x512 .f32 := (extractStridedSlice S1x1024x512 ![0, 0, 0] · slices_S6x1024x512_S1x1024x512_0_0_0) main_arg1
  let main_v6 : FVec F S1024x512 .f32 := shapeCast S1024x512 main_v5 shapeCasts_S1x1024x512_S1024x512
  let main_v7 : FVec F S8192x512 .f32 := mulf main_v4 main_v4
  let main_cst_0 : FVec F S_ .f32 := constant S_ .f32 0x00000000#32
  let main_v8 : FVec F S8192 .f32 := (fun x v => Host.reduceAdd x v reducesTo_S8192x512_S8192_d1 h_S_) main_v7 main_cst_0
  let main_v9 : FVec F S8192x1 .f32 := broadcastInDim S8192x1 ![0] bcast_S8192_S8192x1_0 main_v8
  let main_cst_1 : FVec F S_ .f32 := constant S_ .f32 0x40000000#32
  let main_v10 : FVec F S8192x512 .f32 := broadcastInDim S8192x512 ![] bcast_S_S8192x512 main_cst_1
  let main_v11 : FVec F S8192x512 .f32 := mulf main_v10 main_v4
  let main_v12 : FVec F S512x1024 .f32 := (transpose S512x1024 [1, 0] · transposes_S1024x512_S512x1024_1_0) main_v6
  let main_v13 : FVec F S8192x1024 .f32 := (fun l r => Host.dotGeneral dot_S8192x512_S512x1024_S8192x1024_1_0_0_1_n_n none l r) main_v11 main_v12
  let main_v14 : FVec F S8192x1024 .f32 := broadcastInDim S8192x1024 ![0, 1] bcast_S8192x1_S8192x1024_0_1 main_v9
  let main_v15 : FVec F S8192x1024 .f32 := subf main_v14 main_v13
  let main_v16 : FVec F S1024x512 .f32 := mulf main_v6 main_v6
  let main_cst_2 : FVec F S_ .f32 := constant S_ .f32 0x00000000#32
  let main_v17 : FVec F S1024 .f32 := (fun x v => Host.reduceAdd x v reducesTo_S1024x512_S1024_d1 h_S_) main_v16 main_cst_2
  let main_v18 : FVec F S1x1024 .f32 := broadcastInDim S1x1024 ![1] bcast_S1024_S1x1024_1 main_v17
  let main_v19 : FVec F S8192x1024 .f32 := broadcastInDim S8192x1024 ![0, 1] bcast_S1x1024_S8192x1024_0_1 main_v18
  fn_part1 (F := F) main_arg1 main_v2 main_v4 main_v6 main_v15 main_v19
-- ==== Kernel.lean ====
abbrev S8x512x1024 : Shape := ⟨3, ![8, 512, 1024]⟩
abbrev S6x1024x512 : Shape := ⟨3, ![6, 1024, 512]⟩
abbrev S8x1024x512 : Shape := ⟨3, ![8, 1024, 512]⟩
abbrev S8192x512 : Shape := ⟨2, ![8192, 512]⟩
abbrev S6x8192 : Shape := ⟨2, ![6, 8192]⟩
abbrev S1x1 : Shape := ⟨2, ![1, 1]⟩
abbrev S512x512 : Shape := ⟨2, ![512, 512]⟩
abbrev S6x512 : Shape := ⟨2, ![6, 512]⟩
abbrev S8x1024 : Shape := ⟨2, ![8, 1024]⟩
abbrev S8x128 : Shape := ⟨2, ![8, 128]⟩
abbrev S1x1024x512 : Shape := ⟨3, ![1, 1024, 512]⟩
abbrev S1024x512 : Shape := ⟨2, ![1024, 512]⟩
abbrev S1024 : Shape := ⟨1, ![1024]⟩
abbrev S1x1024 : Shape := ⟨2, ![1, 1024]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S1x512 : Shape := ⟨2, ![1, 512]⟩
abbrev S1x128 : Shape := ⟨2, ![1, 128]⟩
abbrev S128 : Shape := ⟨1, ![128]⟩
abbrev S1x512x1 : Shape := ⟨3, ![1, 512, 1]⟩
abbrev S1 : Shape := ⟨1, ![1]⟩
abbrev S1x1x1 : Shape := ⟨3, ![1, 1, 1]⟩
abbrev S1x512x512 : Shape := ⟨3, ![1, 512, 512]⟩
abbrev S8x1 : Shape := ⟨2, ![8, 1]⟩
abbrev S8 : Shape := ⟨1, ![8]⟩
abbrev S1x8x1 : Shape := ⟨3, ![1, 8, 1]⟩
abbrev S8192x6 : Shape := ⟨2, ![8192, 6]⟩
abbrev S8x1024x6 : Shape := ⟨3, ![8, 1024, 6]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S8x512x1024, .f32⟩
  | .hbm, ⟨1, _⟩ => ⟨S6x1024x512, .f32⟩
  | .hbm, ⟨2, _⟩ => ⟨S8x1024x512, .f32⟩
  | .hbm, ⟨3, _⟩ => ⟨S8192x512, .f32⟩
  | .hbm, ⟨4, _⟩ => ⟨S8192x512, .f32⟩
  | .hbm, ⟨5, _⟩ => ⟨S6x8192, .i32⟩
  | .hbm, ⟨6, _⟩ => ⟨S1x1, .f32⟩
  | .hbm, ⟨7, _⟩ => ⟨S1x1, .f32⟩
  | .hbm, ⟨8, _⟩ => ⟨S8x1024x512, .f32⟩
  | .hbm, ⟨9, _⟩ => ⟨S8x512x1024, .f32⟩
  | .hbm, ⟨10, _⟩ => ⟨S8192x6, .i32⟩
  | .hbm, ⟨11, _⟩ => ⟨S8x1024x6, .i32⟩
  | .hbm, ⟨12, _⟩ => ⟨S_, .f32⟩
  | .hbm, ⟨13, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S6x1024x512, .f32⟩
  | .local _ .vmem, ⟨3, _⟩ => ⟨S512x512, .f32⟩
  | .local _ .vmem, ⟨4, _⟩ => ⟨S512x512, .f32⟩
  | .local _ .vmem, ⟨5, _⟩ => ⟨S6x512, .i32⟩
  | .local _ .vmem, ⟨6, _⟩ => ⟨S6x512, .i32⟩
  | .local _ .vmem, ⟨7, _⟩ => ⟨S1x1, .f32⟩
  | .local _ .vmem, ⟨8, _⟩ => ⟨S1x1, .f32⟩
  | .local _ .vmem, ⟨9, _⟩ => ⟨S8x1024, .f32⟩
  | .local _ .vmem, ⟨10, _⟩ => ⟨S8x1024, .f32⟩
  | .local _ .vmem, ⟨11, _⟩ => ⟨S8x128, .f32⟩
  | .local _ .vmem, ⟨12, _⟩ => ⟨S6x1024x512, .bf16⟩
  | .local _ .vmem, ⟨13, _⟩ => ⟨S6x1024x512, .bf16⟩
  | .local _ .vmem, ⟨14, _⟩ => ⟨S6x1024x512, .bf16⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v352 : BitVec 1 := Scalar.cmpi .eq arg0 c15_i32
  let v353 : BitVec 32 := Scalar.extui v352
  let c0_i32_191 : BitVec 32 := 0#32
  let v354 : BitVec 1 := Scalar.cmpi .ne v353 c0_i32_191
  v354

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x512x1024 : Shape := ⟨3, ![8, 512, 1024]⟩
abbrev S6x1024x512 : Shape := ⟨3, ![6, 1024, 512]⟩
abbrev S_ : Shape := ⟨0, ![]⟩
abbrev S1x1024x512 : Shape := ⟨3, ![1, 1024, 512]⟩
abbrev S1024x512 : Shape := ⟨2, ![1024, 512]⟩
abbrev S8x1024x512 : Shape := ⟨3, ![8, 1024, 512]⟩
abbrev S8192x512 : Shape := ⟨2, ![8192, 512]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x1024 : Shape := ⟨2, ![8, 1024]⟩
abbrev S8x1024x1 : Shape := ⟨3, ![8, 1024, 1]⟩
abbrev S8x1024x6 : Shape := ⟨3, ![8, 1024, 6]⟩

abbrev nBuf : Space → Nat
  | .hbm => 521
  | .vmem => 0
  | .smem => 0
  | _ => 0

abbrev hbmTy0_0 (i : Nat) : BufTy := match i % 128 with
  | 0 => ⟨S8x512x1024, .f32⟩
  | 1 => ⟨S6x1024x512, .f32⟩
  | 2 => ⟨S_, .f32⟩
  | 3 => ⟨S8x512x1024, .f32⟩
  | 4 => ⟨S1x1024x512, .f32⟩
  | 5 => ⟨S1024x512, .f32⟩
  | 6 => ⟨S8x1024x512, .f32⟩
  | 7 => ⟨S8192x512, .f32⟩
  | 8 => ⟨S8192x512, .f32⟩
  | 9 => ⟨S_, .f32⟩
  | 10 => ⟨S8192, .f32⟩
  | 11 => ⟨S8192x1, .f32⟩
  | 12 => ⟨S_, .f32⟩
  | 13 => ⟨S8192x512, .f32⟩
  | 14 => ⟨S8192x512, .f32⟩
  | 15 => ⟨S512x1024, .f32⟩
  | 16 => ⟨S8192x1024, .f32⟩
  | 17 => ⟨S8192x1024, .f32⟩
  | 18 => ⟨S8192x1024, .f32⟩
  | 19 => ⟨S1024x512, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S8192x1024, .i32⟩
  | 26 => ⟨S_, .f32⟩
  | 27 => ⟨S_, .i32⟩
  | 28 => ⟨S8192, .f32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S1, .i32⟩
  | 39 => ⟨S_, .i32⟩
  | 40 => ⟨S8192x1, .i32⟩
  | 41 => ⟨S8192x1, .i1⟩
  | 42 => ⟨S1x1, .i32⟩
  | 43 => ⟨S8192x1, .i32⟩
  | 44 => ⟨S8192x1, .i1⟩
  | 45 => ⟨S8192x1, .i1⟩
  | 46 => ⟨S_, .i1⟩
  | 47 => ⟨S8192, .i1⟩
  | 48 => ⟨S8192x512, .f32⟩
  | 49 => ⟨S8192x512, .i1⟩
  | 50 => ⟨S_, .f32⟩
  | 51 => ⟨S8192x512, .f32⟩
  | 52 => ⟨S8192x512, .f32⟩
  | 53 => ⟨S8192x1, .i32⟩
  | 54 => ⟨S1x1024, .i32⟩
  | 55 => ⟨S8192x1024, .i32⟩
  | 56 => ⟨S8192x1024, .i32⟩
  | 57 => ⟨S8192x1024, .i1⟩
  | 58 => ⟨S8192x1024, .f32⟩
  | 59 => ⟨S_, .f32⟩
  | 60 => ⟨S1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S1024, .f32⟩
  | 69 => ⟨S_, .f32⟩
  | 70 => ⟨S_, .f32⟩
  | 71 => ⟨S_, .f32⟩
  | 72 => ⟨S_, .f32⟩
  | 73 => ⟨S8192x512, .f32⟩
  | 74 => ⟨S8192x512, .f32⟩
  | 75 => ⟨S_, .f32⟩
  | 76 => ⟨S_, .f32⟩
  | 77 => ⟨S_, .f32⟩
  | 78 => ⟨S_, .f32⟩
  | 79 => ⟨S8192x512, .f32⟩
  | 80 => ⟨S8192x512, .f32⟩
  | 81 => ⟨S8x1024x512, .f32⟩
  | 82 => ⟨S8x512x1024, .f32⟩
  | 83 => ⟨S8x1024, .i32⟩
  | 84 => ⟨S8x512x1024, .f32⟩
  | 85 => ⟨S8x512x1024, .f32⟩
  | 86 => ⟨S1x1024x512, .f32⟩
  | 87 => ⟨S1024x512, .f32⟩
  | 88 => ⟨S8x1024x512, .f32⟩
  | 89 => ⟨S8192x512, .f32⟩
  | 90 => ⟨S8192x512, .f32⟩
  | 91 => ⟨S_, .f32⟩
  | 92 => ⟨S8192, .f32⟩
  | 93 => ⟨S8192x1, .f32⟩
  | 94 => ⟨S_, .f32⟩
  | 95 => ⟨S8192x512, .f32⟩
  | 96 => ⟨S8192x512, .f32⟩
  | 97 => ⟨S512x1024, .f32⟩
  | 98 => ⟨S8192x1024, .f32⟩
  | 99 => ⟨S8192x1024, .f32⟩
  | 100 => ⟨S8192x1024, .f32⟩
  | 101 => ⟨S1024x512, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S8192x1024, .i32⟩
  | 108 => ⟨S_, .f32⟩
  | 109 => ⟨S_, .i32⟩
  | 110 => ⟨S8192, .f32⟩
  | 111 => ⟨S8192, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S1, .i32⟩
  | 121 => ⟨S_, .i32⟩
  | 122 => ⟨S8192x1, .i32⟩
  | 123 => ⟨S8192x1, .i1⟩
  | 124 => ⟨S1x1, .i32⟩
  | 125 => ⟨S8192x1, .i32⟩
  | 126 => ⟨S8192x1, .i1⟩
  | 127 => ⟨S8192x1, .i1⟩
  | _ => ⟨S8x512x1024, .f32⟩

abbrev hbmTy0_1 (i : Nat) : BufTy := match i % 128 with
  | 0 => ⟨S_, .i1⟩
  | 1 => ⟨S8192, .i1⟩
  | 2 => ⟨S8192x512, .f32⟩
  | 3 => ⟨S8192x512, .i1⟩
  | 4 => ⟨S_, .f32⟩
  | 5 => ⟨S8192x512, .f32⟩
  | 6 => ⟨S8192x512, .f32⟩
  | 7 => ⟨S8192x1, .i32⟩
  | 8 => ⟨S1x1024, .i32⟩
  | 9 => ⟨S8192x1024, .i32⟩
  | 10 => ⟨S8192x1024, .i32⟩
  | 11 => ⟨S8192x1024, .i1⟩
  | 12 => ⟨S8192x1024, .f32⟩
  | 13 => ⟨S_, .f32⟩
  | 14 => ⟨S1024, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S1024, .f32⟩
  | 23 => ⟨S_, .f32⟩
  | 24 => ⟨S_, .f32⟩
  | 25 => ⟨S_, .f32⟩
  | 26 => ⟨S_, .f32⟩
  | 27 => ⟨S8192x512, .f32⟩
  | 28 => ⟨S8192x512, .f32⟩
  | 29 => ⟨S_, .f32⟩
  | 30 => ⟨S_, .f32⟩
  | 31 => ⟨S_, .f32⟩
  | 32 => ⟨S_, .f32⟩
  | 33 => ⟨S8192x512, .f32⟩
  | 34 => ⟨S8192x512, .f32⟩
  | 35 => ⟨S8x1024x512, .f32⟩
  | 36 => ⟨S8x512x1024, .f32⟩
  | 37 => ⟨S8x1024, .i32⟩
  | 38 => ⟨S8x512x1024, .f32⟩
  | 39 => ⟨S8x512x1024, .f32⟩
  | 40 => ⟨S1x1024x512, .f32⟩
  | 41 => ⟨S1024x512, .f32⟩
  | 42 => ⟨S8x1024x512, .f32⟩
  | 43 => ⟨S8192x512, .f32⟩
  | 44 => ⟨S8192x512, .f32⟩
  | 45 => ⟨S_, .f32⟩
  | 46 => ⟨S8192, .f32⟩
  | 47 => ⟨S8192x1, .f32⟩
  | 48 => ⟨S_, .f32⟩
  | 49 => ⟨S8192x512, .f32⟩
  | 50 => ⟨S8192x512, .f32⟩
  | 51 => ⟨S512x1024, .f32⟩
  | 52 => ⟨S8192x1024, .f32⟩
  | 53 => ⟨S8192x1024, .f32⟩
  | 54 => ⟨S8192x1024, .f32⟩
  | 55 => ⟨S1024x512, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S8192x1024, .i32⟩
  | 62 => ⟨S_, .f32⟩
  | 63 => ⟨S_, .i32⟩
  | 64 => ⟨S8192, .f32⟩
  | 65 => ⟨S8192, .i32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S1, .i32⟩
  | 75 => ⟨S_, .i32⟩
  | 76 => ⟨S8192x1, .i32⟩
  | 77 => ⟨S8192x1, .i1⟩
  | 78 => ⟨S1x1, .i32⟩
  | 79 => ⟨S8192x1, .i32⟩
  | 80 => ⟨S8192x1, .i1⟩
  | 81 => ⟨S8192x1, .i1⟩
  | 82 => ⟨S_, .i1⟩
  | 83 => ⟨S8192, .i1⟩
  | 84 => ⟨S8192x512, .f32⟩
  | 85 => ⟨S8192x512, .i1⟩
  | 86 => ⟨S_, .f32⟩
  | 87 => ⟨S8192x512, .f32⟩
  | 88 => ⟨S8192x512, .f32⟩
  | 89 => ⟨S8192x1, .i32⟩
  | 90 => ⟨S1x1024, .i32⟩
  | 91 => ⟨S8192x1024, .i32⟩
  | 92 => ⟨S8192x1024, .i32⟩
  | 93 => ⟨S8192x1024, .i1⟩
  | 94 => ⟨S8192x1024, .f32⟩
  | 95 => ⟨S_, .f32⟩
  | 96 => ⟨S1024, .f32⟩
  | 97 => ⟨S_, .f32⟩
  | 98 => ⟨S1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S1024, .f32⟩
  | 105 => ⟨S_, .f32⟩
  | 106 => ⟨S_, .f32⟩
  | 107 => ⟨S_, .f32⟩
  | 108 => ⟨S_, .f32⟩
  | 109 => ⟨S8192x512, .f32⟩
  | 110 => ⟨S8192x512, .f32⟩
  | 111 => ⟨S_, .f32⟩
  | 112 => ⟨S_, .f32⟩
  | 113 => ⟨S_, .f32⟩
  | 114 => ⟨S_, .f32⟩
  | 115 => ⟨S8192x512, .f32⟩
  | 116 => ⟨S8192x512, .f32⟩
  | 117 => ⟨S8x1024x512, .f32⟩
  | 118 => ⟨S8x512x1024, .f32⟩
  | 119 => ⟨S8x1024, .i32⟩
  | 120 => ⟨S8x512x1024, .f32⟩
  | 121 => ⟨S8x512x1024, .f32⟩
  | 122 => ⟨S1x1024x512, .f32⟩
  | 123 => ⟨S1024x512, .f32⟩
  | 124 => ⟨S8x1024x512, .f32⟩
  | 125 => ⟨S8192x512, .f32⟩
  | 126 => ⟨S8192x512, .f32⟩
  | 127 => ⟨S_, .f32⟩
  | _ => ⟨S8x512x1024, .f32⟩

abbrev hbmTy0_2 (i : Nat) : BufTy := match i % 128 with
  | 0 => ⟨S8192, .f32⟩
  | 1 => ⟨S8192x1, .f32⟩
  | 2 => ⟨S_, .f32⟩
  | 3 => ⟨S8192x512, .f32⟩
  | 4 => ⟨S8192x512, .f32⟩
  | 5 => ⟨S512x1024, .f32⟩
  | 6 => ⟨S8192x1024, .f32⟩
  | 7 => ⟨S8192x1024, .f32⟩
  | 8 => ⟨S8192x1024, .f32⟩
  | 9 => ⟨S1024x512, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S8192x1024, .i32⟩
  | 16 => ⟨S_, .f32⟩
  | 17 => ⟨S_, .i32⟩
  | 18 => ⟨S8192, .f32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S1, .i32⟩
  | 29 => ⟨S_, .i32⟩
  | 30 => ⟨S8192x1, .i32⟩
  | 31 => ⟨S8192x1, .i1⟩
  | 32 => ⟨S1x1, .i32⟩
  | 33 => ⟨S8192x1, .i32⟩
  | 34 => ⟨S8192x1, .i1⟩
  | 35 => ⟨S8192x1, .i1⟩
  | 36 => ⟨S_, .i1⟩
  | 37 => ⟨S8192, .i1⟩
  | 38 => ⟨S8192x512, .f32⟩
  | 39 => ⟨S8192x512, .i1⟩
  | 40 => ⟨S_, .f32⟩
  | 41 => ⟨S8192x512, .f32⟩
  | 42 => ⟨S8192x512, .f32⟩
  | 43 => ⟨S8192x1, .i32⟩
  | 44 => ⟨S1x1024, .i32⟩
  | 45 => ⟨S8192x1024, .i32⟩
  | 46 => ⟨S8192x1024, .i32⟩
  | 47 => ⟨S8192x1024, .i1⟩
  | 48 => ⟨S8192x1024, .f32⟩
  | 49 => ⟨S_, .f32⟩
  | 50 => ⟨S1024, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S1024, .f32⟩
  | 59 => ⟨S_, .f32⟩
  | 60 => ⟨S_, .f32⟩
  | 61 => ⟨S_, .f32⟩
  | 62 => ⟨S_, .f32⟩
  | 63 => ⟨S8192x512, .f32⟩
  | 64 => ⟨S8192x512, .f32⟩
  | 65 => ⟨S_, .f32⟩
  | 66 => ⟨S_, .f32⟩
  | 67 => ⟨S_, .f32⟩
  | 68 => ⟨S_, .f32⟩
  | 69 => ⟨S8192x512, .f32⟩
  | 70 => ⟨S8192x512, .f32⟩
  | 71 => ⟨S8x1024x512, .f32⟩
  | 72 => ⟨S8x512x1024, .f32⟩
  | 73 => ⟨S8x1024, .i32⟩
  | 74 => ⟨S8x512x1024, .f32⟩
  | 75 => ⟨S8x512x1024, .f32⟩
  | 76 => ⟨S1x1024x512, .f32⟩
  | 77 => ⟨S1024x512, .f32⟩
  | 78 => ⟨S8x1024x512, .f32⟩
  | 79 => ⟨S8192x512, .f32⟩
  | 80 => ⟨S8192x512, .f32⟩
  | 81 => ⟨S_, .f32⟩
  | 82 => ⟨S8192, .f32⟩
  | 83 => ⟨S8192x1, .f32⟩
  | 84 => ⟨S_, .f32⟩
  | 85 => ⟨S8192x512, .f32⟩
  | 86 => ⟨S8192x512, .f32⟩
  | 87 => ⟨S512x1024, .f32⟩
  | 88 => ⟨S8192x1024, .f32⟩
  | 89 => ⟨S8192x1024, .f32⟩
  | 90 => ⟨S8192x1024, .f32⟩
  | 91 => ⟨S1024x512, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S8192x1024, .i32⟩
  | 98 => ⟨S_, .f32⟩
  | 99 => ⟨S_, .i32⟩
  | 100 => ⟨S8192, .f32⟩
  | 101 => ⟨S8192, .i32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S1, .i32⟩
  | 111 => ⟨S_, .i32⟩
  | 112 => ⟨S8192x1, .i32⟩
  | 113 => ⟨S8192x1, .i1⟩
  | 114 => ⟨S1x1, .i32⟩
  | 115 => ⟨S8192x1, .i32⟩
  | 116 => ⟨S8192x1, .i1⟩
  | 117 => ⟨S8192x1, .i1⟩
  | 118 => ⟨S_, .i1⟩
  | 119 => ⟨S8192, .i1⟩
  | 120 => ⟨S8192x512, .f32⟩
  | 121 => ⟨S8192x512, .i1⟩
  | 122 => ⟨S_, .f32⟩
  | 123 => ⟨S8192x512, .f32⟩
  | 124 => ⟨S8192x512, .f32⟩
  | 125 => ⟨S8192x1, .i32⟩
  | 126 => ⟨S1x1024, .i32⟩
  | 127 => ⟨S8192x1024, .i32⟩
  | _ => ⟨S8x512x1024, .f32⟩

abbrev hbmTy0_3 (i : Nat) : BufTy := match i % 128 with
  | 0 => ⟨S8192x1024, .i32⟩
  | 1 => ⟨S8192x1024, .i1⟩
  | 2 => ⟨S8192x1024, .f32⟩
  | 3 => ⟨S_, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S1024, .f32⟩
  | 13 => ⟨S_, .f32⟩
  | 14 => ⟨S_, .f32⟩
  | 15 => ⟨S_, .f32⟩
  | 16 => ⟨S_, .f32⟩
  | 17 => ⟨S8192x512, .f32⟩
  | 18 => ⟨S8192x512, .f32⟩
  | 19 => ⟨S_, .f32⟩
  | 20 => ⟨S_, .f32⟩
  | 21 => ⟨S_, .f32⟩
  | 22 => ⟨S_, .f32⟩
  | 23 => ⟨S8192x512, .f32⟩
  | 24 => ⟨S8192x512, .f32⟩
  | 25 => ⟨S8x1024x512, .f32⟩
  | 26 => ⟨S8x512x1024, .f32⟩
  | 27 => ⟨S8x1024, .i32⟩
  | 28 => ⟨S8x512x1024, .f32⟩
  | 29 => ⟨S8x512x1024, .f32⟩
  | 30 => ⟨S1x1024x512, .f32⟩
  | 31 => ⟨S1024x512, .f32⟩
  | 32 => ⟨S8x1024x512, .f32⟩
  | 33 => ⟨S8192x512, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x512, .f32⟩
  | 40 => ⟨S8192x512, .f32⟩
  | 41 => ⟨S512x1024, .f32⟩
  | 42 => ⟨S8192x1024, .f32⟩
  | 43 => ⟨S8192x1024, .f32⟩
  | 44 => ⟨S8192x1024, .f32⟩
  | 45 => ⟨S1024x512, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S8192x1024, .i32⟩
  | 52 => ⟨S_, .f32⟩
  | 53 => ⟨S_, .i32⟩
  | 54 => ⟨S8192, .f32⟩
  | 55 => ⟨S8192, .i32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S1, .i32⟩
  | 65 => ⟨S_, .i32⟩
  | 66 => ⟨S8192x1, .i32⟩
  | 67 => ⟨S8192x1, .i1⟩
  | 68 => ⟨S1x1, .i32⟩
  | 69 => ⟨S8192x1, .i32⟩
  | 70 => ⟨S8192x1, .i1⟩
  | 71 => ⟨S8192x1, .i1⟩
  | 72 => ⟨S_, .i1⟩
  | 73 => ⟨S8192, .i1⟩
  | 74 => ⟨S8192x512, .f32⟩
  | 75 => ⟨S8192x512, .i1⟩
  | 76 => ⟨S_, .f32⟩
  | 77 => ⟨S8192x512, .f32⟩
  | 78 => ⟨S8192x512, .f32⟩
  | 79 => ⟨S8192x1, .i32⟩
  | 80 => ⟨S1x1024, .i32⟩
  | 81 => ⟨S8192x1024, .i32⟩
  | 82 => ⟨S8192x1024, .i32⟩
  | 83 => ⟨S8192x1024, .i1⟩
  | 84 => ⟨S8192x1024, .f32⟩
  | 85 => ⟨S_, .f32⟩
  | 86 => ⟨S1024, .f32⟩
  | 87 => ⟨S_, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S1024, .f32⟩
  | 95 => ⟨S_, .f32⟩
  | 96 => ⟨S_, .f32⟩
  | 97 => ⟨S_, .f32⟩
  | 98 => ⟨S_, .f32⟩
  | 99 => ⟨S8192x512, .f32⟩
  | 100 => ⟨S8192x512, .f32⟩
  | 101 => ⟨S_, .f32⟩
  | 102 => ⟨S_, .f32⟩
  | 103 => ⟨S_, .f32⟩
  | 104 => ⟨S_, .f32⟩
  | 105 => ⟨S8192x512, .f32⟩
  | 106 => ⟨S8192x512, .f32⟩
  | 107 => ⟨S8x1024x512, .f32⟩
  | 108 => ⟨S8x512x1024, .f32⟩
  | 109 => ⟨S8x1024, .i32⟩
  | 110 => ⟨S8x512x1024, .f32⟩
  | 111 => ⟨S8x512x1024, .f32⟩
  | 112 => ⟨S8x1024x1, .i32⟩
  | 113 => ⟨S8x1024x1, .i32⟩
  | 114 => ⟨S8x1024x1, .i32⟩
  | 115 => ⟨S8x1024x1, .i32⟩
  | 116 => ⟨S8x1024x1, .i32⟩
  | 117 => ⟨S8x1024x1, .i32⟩
  | 118 => ⟨S8x1024x6, .i32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x512x1024, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S8x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_cst_1 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_call0_v0 : Ref sig .tc := ⟨.hbm, 25, rfl⟩
abbrev main_call0_call0_cst : Ref sig .tc := ⟨.hbm, 26, rfl⟩
abbrev main_call0_call0_c : Ref sig .tc := ⟨.hbm, 27, rfl⟩
abbrev main_call0_call0_v1_0 : Ref sig .tc := ⟨.hbm, 28, rfl⟩
abbrev main_call0_v16 : Ref sig .tc := ⟨.hbm, 29, rfl⟩
abbrev main_call0_call1_c : Ref sig .tc := ⟨.hbm, 30, rfl⟩
abbrev main_call0_call1_v0 : Ref sig .tc := ⟨.hbm, 31, rfl⟩
abbrev main_call0_call1_v1 : Ref sig .tc := ⟨.hbm, 32, rfl⟩
abbrev main_call0_call1_c_0 : Ref sig .tc := ⟨.hbm, 33, rfl⟩
abbrev main_call0_call1_v2 : Ref sig .tc := ⟨.hbm, 34, rfl⟩
abbrev main_call0_call1_v3 : Ref sig .tc := ⟨.hbm, 35, rfl⟩
abbrev main_call0_call1_v4 : Ref sig .tc := ⟨.hbm, 36, rfl⟩
abbrev main_call0_call1_v5 : Ref sig .tc := ⟨.hbm, 37, rfl⟩
abbrev main_call0_call1_c_1 : Ref sig .tc := ⟨.hbm, 38, rfl⟩
abbrev main_call0_call1_c_2 : Ref sig .tc := ⟨.hbm, 39, rfl⟩
abbrev main_call0_call1_v6 : Ref sig .tc := ⟨.hbm, 40, rfl⟩
abbrev main_call0_call1_v7 : Ref sig .tc := ⟨.hbm, 41, rfl⟩
abbrev main_call0_call1_v8 : Ref sig .tc := ⟨.hbm, 42, rfl⟩
abbrev main_call0_call1_v9 : Ref sig .tc := ⟨.hbm, 43, rfl⟩
abbrev main_call0_call1_v10 : Ref sig .tc := ⟨.hbm, 44, rfl⟩
abbrev main_call0_call1_v11 : Ref sig .tc := ⟨.hbm, 45, rfl⟩
abbrev main_call0_call1_c_3 : Ref sig .tc := ⟨.hbm, 46, rfl⟩
abbrev main_call0_call1_v12 : Ref sig .tc := ⟨.hbm, 47, rfl⟩
abbrev main_call0_call1_v13 : Ref sig .tc := ⟨.hbm, 48, rfl⟩
abbrev main_call0_call1_v14 : Ref sig .tc := ⟨.hbm, 49, rfl⟩
abbrev main_call0_call1_cst : Ref sig .tc := ⟨.hbm, 50, rfl⟩
abbrev main_call0_call1_v15 : Ref sig .tc := ⟨.hbm, 51, rfl⟩
abbrev main_call0_v17 : Ref sig .tc := ⟨.hbm, 52, rfl⟩
abbrev main_call0_call2_v0 : Ref sig .tc := ⟨.hbm, 53, rfl⟩
abbrev main_call0_call2_v1 : Ref sig .tc := ⟨.hbm, 54, rfl⟩
abbrev main_call0_call2_v2 : Ref sig .tc := ⟨.hbm, 55, rfl⟩
abbrev main_call0_call2_v3 : Ref sig .tc := ⟨.hbm, 56, rfl⟩
abbrev main_call0_call2_v4 : Ref sig .tc := ⟨.hbm, 57, rfl⟩
abbrev main_call0_v18 : Ref sig .tc := ⟨.hbm, 58, rfl⟩
abbrev main_call0_cst_2 : Ref sig .tc := ⟨.hbm, 59, rfl⟩
abbrev main_call0_v19 : Ref sig .tc := ⟨.hbm, 60, rfl⟩
abbrev main_call0_cst_3 : Ref sig .tc := ⟨.hbm, 61, rfl⟩
abbrev main_call0_v20 : Ref sig .tc := ⟨.hbm, 62, rfl⟩
abbrev main_call0_v21 : Ref sig .tc := ⟨.hbm, 63, rfl⟩
abbrev main_call0_cst_4 : Ref sig .tc := ⟨.hbm, 64, rfl⟩
abbrev main_call0_v22 : Ref sig .tc := ⟨.hbm, 65, rfl⟩
abbrev main_call0_v23 : Ref sig .tc := ⟨.hbm, 66, rfl⟩
abbrev main_call0_v24 : Ref sig .tc := ⟨.hbm, 67, rfl⟩
abbrev main_call0_v25 : Ref sig .tc := ⟨.hbm, 68, rfl⟩
abbrev main_call0_cst_5 : Ref sig .tc := ⟨.hbm, 69, rfl⟩
abbrev main_call0_v26 : Ref sig .tc := ⟨.hbm, 70, rfl⟩
abbrev main_call0_v27 : Ref sig .tc := ⟨.hbm, 71, rfl⟩
abbrev main_v3_3 : Ref sig .tc := ⟨.hbm, 72, rfl⟩
abbrev main_call0_v29 : Ref sig .tc := ⟨.hbm, 73, rfl⟩
abbrev main_call0_v30 : Ref sig .tc := ⟨.hbm, 74, rfl⟩
abbrev main_call0_cst_6 : Ref sig .tc := ⟨.hbm, 75, rfl⟩
abbrev main_call0_v31 : Ref sig .tc := ⟨.hbm, 76, rfl⟩
abbrev main_call0_cst_7 : Ref sig .tc := ⟨.hbm, 77, rfl⟩
abbrev main_v3_2 : Ref sig .tc := ⟨.hbm, 78, rfl⟩
abbrev main_call0_v33 : Ref sig .tc := ⟨.hbm, 79, rfl⟩
abbrev main_call0_v34 : Ref sig .tc := ⟨.hbm, 80, rfl⟩
abbrev main_call0_v35 : Ref sig .tc := ⟨.hbm, 81, rfl⟩
abbrev main_v3_0 : Ref sig .tc := ⟨.hbm, 82, rfl⟩
abbrev main_v3_1 : Ref sig .tc := ⟨.hbm, 83, rfl⟩
abbrev main_v4 : Ref sig .tc := ⟨.hbm, 84, rfl⟩
abbrev main_v5 : Ref sig .tc := ⟨.hbm, 85, rfl⟩
abbrev main_v6 : Ref sig .tc := ⟨.hbm, 86, rfl⟩
abbrev main_v7 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_cst : Ref sig .tc := ⟨.hbm, 91, rfl⟩
abbrev main_call1_v3 : Ref sig .tc := ⟨.hbm, 92, rfl⟩
abbrev main_call1_v4 : Ref sig .tc := ⟨.hbm, 93, rfl⟩
abbrev main_call1_cst_0 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_cst_1 : Ref sig .tc := ⟨.hbm, 102, rfl⟩
abbrev main_call1_v12 : Ref sig .tc := ⟨.hbm, 103, rfl⟩
abbrev main_call1_v13 : Ref sig .tc := ⟨.hbm, 104, rfl⟩
abbrev main_call1_v14 : Ref sig .tc := ⟨.hbm, 105, rfl⟩
abbrev main_call1_v15 : Ref sig .tc := ⟨.hbm, 106, rfl⟩
abbrev main_call1_call0_v0 : Ref sig .tc := ⟨.hbm, 107, rfl⟩
abbrev main_call1_call0_cst : Ref sig .tc := ⟨.hbm, 108, rfl⟩
abbrev main_call1_call0_c : Ref sig .tc := ⟨.hbm, 109, rfl⟩
abbrev main_call1_call0_v1_0 : Ref sig .tc := ⟨.hbm, 110, rfl⟩
abbrev main_call1_v16 : Ref sig .tc := ⟨.hbm, 111, rfl⟩
abbrev main_call1_call1_c : Ref sig .tc := ⟨.hbm, 112, rfl⟩
abbrev main_call1_call1_v0 : Ref sig .tc := ⟨.hbm, 113, rfl⟩
abbrev main_call1_call1_v1 : Ref sig .tc := ⟨.hbm, 114, rfl⟩
abbrev main_call1_call1_c_0 : Ref sig .tc := ⟨.hbm, 115, rfl⟩
abbrev main_call1_call1_v2 : Ref sig .tc := ⟨.hbm, 116, rfl⟩
abbrev main_call1_call1_v3 : Ref sig .tc := ⟨.hbm, 117, rfl⟩
abbrev main_call1_call1_v4 : Ref sig .tc := ⟨.hbm, 118, rfl⟩
abbrev main_call1_call1_v5 : Ref sig .tc := ⟨.hbm, 119, rfl⟩
abbrev main_call1_call1_c_1 : Ref sig .tc := ⟨.hbm, 120, rfl⟩
abbrev main_call1_call1_c_2 : Ref sig .tc := ⟨.hbm, 121, rfl⟩
abbrev main_call1_call1_v6 : Ref sig .tc := ⟨.hbm, 122, rfl⟩
abbrev main_call1_call1_v7 : Ref sig .tc := ⟨.hbm, 123, rfl⟩
abbrev main_call1_call1_v8 : Ref sig .tc := ⟨.hbm, 124, rfl⟩
abbrev main_call1_call1_v9 : Ref sig .tc := ⟨.hbm, 125, rfl⟩
abbrev main_call1_call1_v10 : Ref sig .tc := ⟨.hbm, 126, rfl⟩
abbrev main_call1_call1_v11 : Ref sig .tc := ⟨.hbm, 127, rfl⟩
abbrev main_call1_call1_c_3 : Ref sig .tc := ⟨.hbm, 128, rfl⟩
abbrev main_call1_call1_v12 : Ref sig .tc := ⟨.hbm, 129, rfl⟩
abbrev main_call1_call1_v13 : Ref sig .tc := ⟨.hbm, 130, rfl⟩
abbrev main_call1_call1_v14 : Ref sig .tc := ⟨.hbm, 131, rfl⟩
abbrev main_call1_call1_cst : Ref sig .tc := ⟨.hbm, 132, rfl⟩
abbrev main_call1_call1_v15 : Ref sig .tc := ⟨.hbm, 133, rfl⟩
abbrev main_call1_v17 : Ref sig .tc := ⟨.hbm, 134, rfl⟩
abbrev main_call1_call2_v0 : Ref sig .tc := ⟨.hbm, 135, rfl⟩
abbrev main_call1_call2_v1 : Ref sig .tc := ⟨.hbm, 136, rfl⟩
abbrev main_call1_call2_v2 : Ref sig .tc := ⟨.hbm, 137, rfl⟩
abbrev main_call1_call2_v3 : Ref sig .tc := ⟨.hbm, 138, rfl⟩
abbrev main_call1_call2_v4 : Ref sig .tc := ⟨.hbm, 139, rfl⟩
abbrev main_call1_v18 : Ref sig .tc := ⟨.hbm, 140, rfl⟩
abbrev main_call1_cst_2 : Ref sig .tc := ⟨.hbm, 141, rfl⟩
abbrev main_call1_v19 : Ref sig .tc := ⟨.hbm, 142, rfl⟩
abbrev main_call1_cst_3 : Ref sig .tc := ⟨.hbm, 143, rfl⟩
abbrev main_call1_v20 : Ref sig .tc := ⟨.hbm, 144, rfl⟩
abbrev main_call1_v21 : Ref sig .tc := ⟨.hbm, 145, rfl⟩
abbrev main_call1_cst_4 : Ref sig .tc := ⟨.hbm, 146, rfl⟩
abbrev main_call1_v22 : Ref sig .tc := ⟨.hbm, 147, rfl⟩
abbrev main_call1_v23 : Ref sig .tc := ⟨.hbm, 148, rfl⟩
abbrev main_call1_v24 : Ref sig .tc := ⟨.hbm, 149, rfl⟩
abbrev main_call1_v25 : Ref sig .tc := ⟨.hbm, 150, rfl⟩
abbrev main_call1_cst_5 : Ref sig .tc := ⟨.hbm, 151, rfl⟩
abbrev main_call1_v26 : Ref sig .tc := ⟨.hbm, 152, rfl⟩
abbrev main_call1_v27 : Ref sig .tc := ⟨.hbm, 153, rfl⟩
abbrev main_v8_3 : Ref sig .tc := ⟨.hbm, 154, rfl⟩
abbrev main_call1_v29 : Ref sig .tc := ⟨.hbm, 155, rfl⟩
abbrev main_call1_v30 : Ref sig .tc := ⟨.hbm, 156, rfl⟩
abbrev main_call1_cst_6 : Ref sig .tc := ⟨.hbm, 157, rfl⟩
abbrev main_call1_v31 : Ref sig .tc := ⟨.hbm, 158, rfl⟩
abbrev main_call1_cst_7 : Ref sig .tc := ⟨.hbm, 159, rfl⟩
abbrev main_v8_2 : Ref sig .tc := ⟨.hbm, 160, rfl⟩
abbrev main_call1_v33 : Ref sig .tc := ⟨.hbm, 161, rfl⟩
abbrev main_call1_v34 : Ref sig .tc := ⟨.hbm, 162, rfl⟩
abbrev main_call1_v35 : Ref sig .tc := ⟨.hbm, 163, rfl⟩
abbrev main_v8_0 : Ref sig .tc := ⟨.hbm, 164, rfl⟩
abbrev main_v8_1 : Ref sig .tc := ⟨.hbm, 165, rfl⟩
abbrev main_v9 : Ref sig .tc := ⟨.hbm, 166, rfl⟩
abbrev main_v10 : Ref sig .tc := ⟨.hbm, 167, rfl⟩
abbrev main_v11 : Ref sig .tc := ⟨.hbm, 168, rfl⟩
abbrev main_v12 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_call2_cst : Ref sig .tc := ⟨.hbm, 173, rfl⟩
abbrev main_call2_v3 : Ref sig .tc := ⟨.hbm, 174, rfl⟩
abbrev main_call2_v4 : Ref sig .tc := ⟨.hbm, 175, rfl⟩
abbrev main_call2_cst_0 : Ref sig .tc := ⟨.hbm, 176, rfl⟩
abbrev main_call2_v5 : Ref sig .tc := ⟨.hbm, 177, rfl⟩
abbrev main_call2_v6 : Ref sig .tc := ⟨.hbm, 178, rfl⟩
abbrev main_call2_v7 : Ref sig .tc := ⟨.hbm, 179, rfl⟩
abbrev main_call2_v8 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_cst_1 : Ref sig .tc := ⟨.hbm, 184, rfl⟩
abbrev main_call2_v12 : Ref sig .tc := ⟨.hbm, 185, rfl⟩
abbrev main_call2_v13 : Ref sig .tc := ⟨.hbm, 186, rfl⟩
abbrev main_call2_v14 : Ref sig .tc := ⟨.hbm, 187, rfl⟩
abbrev main_call2_v15 : Ref sig .tc := ⟨.hbm, 188, rfl⟩
abbrev main_call2_call0_v0 : Ref sig .tc := ⟨.hbm, 189, rfl⟩
abbrev main_call2_call0_cst : Ref sig .tc := ⟨.hbm, 190, rfl⟩
abbrev main_call2_call0_c : Ref sig .tc := ⟨.hbm, 191, rfl⟩
abbrev main_call2_call0_v1_0 : Ref sig .tc := ⟨.hbm, 192, rfl⟩
abbrev main_call2_v16 : Ref sig .tc := ⟨.hbm, 193, rfl⟩
abbrev main_call2_call1_c : Ref sig .tc := ⟨.hbm, 194, rfl⟩
abbrev main_call2_call1_v0 : Ref sig .tc := ⟨.hbm, 195, rfl⟩
abbrev main_call2_call1_v1 : Ref sig .tc := ⟨.hbm, 196, rfl⟩
abbrev main_call2_call1_c_0 : Ref sig .tc := ⟨.hbm, 197, rfl⟩
abbrev main_call2_call1_v2 : Ref sig .tc := ⟨.hbm, 198, rfl⟩
abbrev main_call2_call1_v3 : Ref sig .tc := ⟨.hbm, 199, rfl⟩
abbrev main_call2_call1_v4 : Ref sig .tc := ⟨.hbm, 200, rfl⟩
abbrev main_call2_call1_v5 : Ref sig .tc := ⟨.hbm, 201, rfl⟩
abbrev main_call2_call1_c_1 : Ref sig .tc := ⟨.hbm, 202, rfl⟩
abbrev main_call2_call1_c_2 : Ref sig .tc := ⟨.hbm, 203, rfl⟩
abbrev main_call2_call1_v6 : Ref sig .tc := ⟨.hbm, 204, rfl⟩
abbrev main_call2_call1_v7 : Ref sig .tc := ⟨.hbm, 205, rfl⟩
abbrev main_call2_call1_v8 : Ref sig .tc := ⟨.hbm, 206, rfl⟩
abbrev main_call2_call1_v9 : Ref sig .tc := ⟨.hbm, 207, rfl⟩
abbrev main_call2_call1_v10 : Ref sig .tc := ⟨.hbm, 208, rfl⟩
abbrev main_call2_call1_v11 : Ref sig .tc := ⟨.hbm, 209, rfl⟩
abbrev main_call2_call1_c_3 : Ref sig .tc := ⟨.hbm, 210, rfl⟩
abbrev main_call2_call1_v12 : Ref sig .tc := ⟨.hbm, 211, rfl⟩
abbrev main_call2_call1_v13 : Ref sig .tc := ⟨.hbm, 212, rfl⟩
abbrev main_call2_call1_v14 : Ref sig .tc := ⟨.hbm, 213, rfl⟩
abbrev main_call2_call1_cst : Ref sig .tc := ⟨.hbm, 214, rfl⟩
abbrev main_call2_call1_v15 : Ref sig .tc := ⟨.hbm, 215, rfl⟩
abbrev main_call2_v17 : Ref sig .tc := ⟨.hbm, 216, rfl⟩
abbrev main_call2_call2_v0 : Ref sig .tc := ⟨.hbm, 217, rfl⟩
abbrev main_call2_call2_v1 : Ref sig .tc := ⟨.hbm, 218, rfl⟩
abbrev main_call2_call2_v2 : Ref sig .tc := ⟨.hbm, 219, rfl⟩
abbrev main_call2_call2_v3 : Ref sig .tc := ⟨.hbm, 220, rfl⟩
abbrev main_call2_call2_v4 : Ref sig .tc := ⟨.hbm, 221, rfl⟩
abbrev main_call2_v18 : Ref sig .tc := ⟨.hbm, 222, rfl⟩
abbrev main_call2_cst_2 : Ref sig .tc := ⟨.hbm, 223, rfl⟩
abbrev main_call2_v19 : Ref sig .tc := ⟨.hbm, 224, rfl⟩
abbrev main_call2_cst_3 : Ref sig .tc := ⟨.hbm, 225, rfl⟩
abbrev main_call2_v20 : Ref sig .tc := ⟨.hbm, 226, rfl⟩
abbrev main_call2_v21 : Ref sig .tc := ⟨.hbm, 227, rfl⟩
abbrev main_call2_cst_4 : Ref sig .tc := ⟨.hbm, 228, rfl⟩
abbrev main_call2_v22 : Ref sig .tc := ⟨.hbm, 229, rfl⟩
abbrev main_call2_v23 : Ref sig .tc := ⟨.hbm, 230, rfl⟩
abbrev main_call2_v24 : Ref sig .tc := ⟨.hbm, 231, rfl⟩
abbrev main_call2_v25 : Ref sig .tc := ⟨.hbm, 232, rfl⟩
abbrev main_call2_cst_5 : Ref sig .tc := ⟨.hbm, 233, rfl⟩
abbrev main_call2_v26 : Ref sig .tc := ⟨.hbm, 234, rfl⟩
abbrev main_call2_v27 : Ref sig .tc := ⟨.hbm, 235, rfl⟩
abbrev main_v13_3 : Ref sig .tc := ⟨.hbm, 236, rfl⟩
abbrev main_call2_v29 : Ref sig .tc := ⟨.hbm, 237, rfl⟩
abbrev main_call2_v30 : Ref sig .tc := ⟨.hbm, 238, rfl⟩
abbrev main_call2_cst_6 : Ref sig .tc := ⟨.hbm, 239, rfl⟩
abbrev main_call2_v31 : Ref sig .tc := ⟨.hbm, 240, rfl⟩
abbrev main_call2_cst_7 : Ref sig .tc := ⟨.hbm, 241, rfl⟩
abbrev main_v13_2 : Ref sig .tc := ⟨.hbm, 242, rfl⟩
abbrev main_call2_v33 : Ref sig .tc := ⟨.hbm, 243, rfl⟩
abbrev main_call2_v34 : Ref sig .tc := ⟨.hbm, 244, rfl⟩
abbrev main_call2_v35 : Ref sig .tc := ⟨.hbm, 245, rfl⟩
abbrev main_v13_0 : Ref sig .tc := ⟨.hbm, 246, rfl⟩
abbrev main_v13_1 : Ref sig .tc := ⟨.hbm, 247, rfl⟩
abbrev main_v14 : Ref sig .tc := ⟨.hbm, 248, rfl⟩
abbrev main_v15 : Ref sig .tc := ⟨.hbm, 249, rfl⟩
abbrev main_v16 : Ref sig .tc := ⟨.hbm, 250, rfl⟩
abbrev main_v17 : Ref sig .tc := ⟨.hbm, 251, rfl⟩
abbrev main_call3_v0 : Ref sig .tc := ⟨.hbm, 252, rfl⟩
abbrev main_call3_v1 : Ref sig .tc := ⟨.hbm, 253, rfl⟩
abbrev main_call3_v2 : Ref sig .tc := ⟨.hbm, 254, rfl⟩
abbrev main_call3_cst : Ref sig .tc := ⟨.hbm, 255, rfl⟩
abbrev main_call3_v3 : Ref sig .tc := ⟨.hbm, 256, rfl⟩
abbrev main_call3_v4 : Ref sig .tc := ⟨.hbm, 257, rfl⟩
abbrev main_call3_cst_0 : Ref sig .tc := ⟨.hbm, 258, rfl⟩
abbrev main_call3_v5 : Ref sig .tc := ⟨.hbm, 259, rfl⟩
abbrev main_call3_v6 : Ref sig .tc := ⟨.hbm, 260, rfl⟩
abbrev main_call3_v7 : Ref sig .tc := ⟨.hbm, 261, rfl⟩
abbrev main_call3_v8 : Ref sig .tc := ⟨.hbm, 262, rfl⟩
abbrev main_call3_v9 : Ref sig .tc := ⟨.hbm, 263, rfl⟩
abbrev main_call3_v10 : Ref sig .tc := ⟨.hbm, 264, rfl⟩
abbrev main_call3_v11 : Ref sig .tc := ⟨.hbm, 265, rfl⟩
abbrev main_call3_cst_1 : Ref sig .tc := ⟨.hbm, 266, rfl⟩
abbrev main_call3_v12 : Ref sig .tc := ⟨.hbm, 267, rfl⟩
abbrev main_call3_v13 : Ref sig .tc := ⟨.hbm, 268, rfl⟩
abbrev main_call3_v14 : Ref sig .tc := ⟨.hbm, 269, rfl⟩
abbrev main_call3_v15 : Ref sig .tc := ⟨.hbm, 270, rfl⟩
abbrev main_call3_call0_v0 : Ref sig .tc := ⟨.hbm, 271, rfl⟩
abbrev main_call3_call0_cst : Ref sig .tc := ⟨.hbm, 272, rfl⟩
abbrev main_call3_call0_c : Ref sig .tc := ⟨.hbm, 273, rfl⟩
abbrev main_call3_call0_v1_0 : Ref sig .tc := ⟨.hbm, 274, rfl⟩
abbrev main_call3_v16 : Ref sig .tc := ⟨.hbm, 275, rfl⟩
abbrev main_call3_call1_c : Ref sig .tc := ⟨.hbm, 276, rfl⟩
abbrev main_call3_call1_v0 : Ref sig .tc := ⟨.hbm, 277, rfl⟩
abbrev main_call3_call1_v1 : Ref sig .tc := ⟨.hbm, 278, rfl⟩
abbrev main_call3_call1_c_0 : Ref sig .tc := ⟨.hbm, 279, rfl⟩
abbrev main_call3_call1_v2 : Ref sig .tc := ⟨.hbm, 280, rfl⟩
abbrev main_call3_call1_v3 : Ref sig .tc := ⟨.hbm, 281, rfl⟩
abbrev main_call3_call1_v4 : Ref sig .tc := ⟨.hbm, 282, rfl⟩
abbrev main_call3_call1_v5 : Ref sig .tc := ⟨.hbm, 283, rfl⟩
abbrev main_call3_call1_c_1 : Ref sig .tc := ⟨.hbm, 284, rfl⟩
abbrev main_call3_call1_c_2 : Ref sig .tc := ⟨.hbm, 285, rfl⟩
abbrev main_call3_call1_v6 : Ref sig .tc := ⟨.hbm, 286, rfl⟩
abbrev main_call3_call1_v7 : Ref sig .tc := ⟨.hbm, 287, rfl⟩
abbrev main_call3_call1_v8 : Ref sig .tc := ⟨.hbm, 288, rfl⟩
abbrev main_call3_call1_v9 : Ref sig .tc := ⟨.hbm, 289, rfl⟩
abbrev main_call3_call1_v10 : Ref sig .tc := ⟨.hbm, 290, rfl⟩
abbrev main_call3_call1_v11 : Ref sig .tc := ⟨.hbm, 291, rfl⟩
abbrev main_call3_call1_c_3 : Ref sig .tc := ⟨.hbm, 292, rfl⟩
abbrev main_call3_call1_v12 : Ref sig .tc := ⟨.hbm, 293, rfl⟩
abbrev main_call3_call1_v13 : Ref sig .tc := ⟨.hbm, 294, rfl⟩
abbrev main_call3_call1_v14 : Ref sig .tc := ⟨.hbm, 295, rfl⟩
abbrev main_call3_call1_cst : Ref sig .tc := ⟨.hbm, 296, rfl⟩
abbrev main_call3_call1_v15 : Ref sig .tc := ⟨.hbm, 297, rfl⟩
abbrev main_call3_v17 : Ref sig .tc := ⟨.hbm, 298, rfl⟩
abbrev main_call3_call2_v0 : Ref sig .tc := ⟨.hbm, 299, rfl⟩
abbrev main_call3_call2_v1 : Ref sig .tc := ⟨.hbm, 300, rfl⟩
abbrev main_call3_call2_v2 : Ref sig .tc := ⟨.hbm, 301, rfl⟩
abbrev main_call3_call2_v3 : Ref sig .tc := ⟨.hbm, 302, rfl⟩
abbrev main_call3_call2_v4 : Ref sig .tc := ⟨.hbm, 303, rfl⟩
abbrev main_call3_v18 : Ref sig .tc := ⟨.hbm, 304, rfl⟩
abbrev main_call3_cst_2 : Ref sig .tc := ⟨.hbm, 305, rfl⟩
abbrev main_call3_v19 : Ref sig .tc := ⟨.hbm, 306, rfl⟩
abbrev main_call3_cst_3 : Ref sig .tc := ⟨.hbm, 307, rfl⟩
abbrev main_call3_v20 : Ref sig .tc := ⟨.hbm, 308, rfl⟩
abbrev main_call3_v21 : Ref sig .tc := ⟨.hbm, 309, rfl⟩
abbrev main_call3_cst_4 : Ref sig .tc := ⟨.hbm, 310, rfl⟩
abbrev main_call3_v22 : Ref sig .tc := ⟨.hbm, 311, rfl⟩
abbrev main_call3_v23 : Ref sig .tc := ⟨.hbm, 312, rfl⟩
abbrev main_call3_v24 : Ref sig .tc := ⟨.hbm, 313, rfl⟩
abbrev main_call3_v25 : Ref sig .tc := ⟨.hbm, 314, rfl⟩
abbrev main_call3_cst_5 : Ref sig .tc := ⟨.hbm, 315, rfl⟩
abbrev main_call3_v26 : Ref sig .tc := ⟨.hbm, 316, rfl⟩
abbrev main_call3_v27 : Ref sig .tc := ⟨.hbm, 317, rfl⟩
abbrev main_v18_3 : Ref sig .tc := ⟨.hbm, 318, rfl⟩
abbrev main_call3_v29 : Ref sig .tc := ⟨.hbm, 319, rfl⟩
abbrev main_call3_v30 : Ref sig .tc := ⟨.hbm, 320, rfl⟩
abbrev main_call3_cst_6 : Ref sig .tc := ⟨.hbm, 321, rfl⟩
abbrev main_call3_v31 : Ref sig .tc := ⟨.hbm, 322, rfl⟩
abbrev main_call3_cst_7 : Ref sig .tc := ⟨.hbm, 323, rfl⟩
abbrev main_v18_2 : Ref sig .tc := ⟨.hbm, 324, rfl⟩
abbrev main_call3_v33 : Ref sig .tc := ⟨.hbm, 325, rfl⟩
abbrev main_call3_v34 : Ref sig .tc := ⟨.hbm, 326, rfl⟩
abbrev main_call3_v35 : Ref sig .tc := ⟨.hbm, 327, rfl⟩
abbrev main_v18_0 : Ref sig .tc := ⟨.hbm, 328, rfl⟩
abbrev main_v18_1 : Ref sig .tc := ⟨.hbm, 329, rfl⟩
abbrev main_v19 : Ref sig .tc := ⟨.hbm, 330, rfl⟩
abbrev main_v20 : Ref sig .tc := ⟨.hbm, 331, rfl⟩
abbrev main_v21 : Ref sig .tc := ⟨.hbm, 332, rfl⟩
abbrev main_v22 : Ref sig .tc := ⟨.hbm, 333, rfl⟩
abbrev main_call4_v0 : Ref sig .tc := ⟨.hbm, 334, rfl⟩
abbrev main_call4_v1 : Ref sig .tc := ⟨.hbm, 335, rfl⟩
abbrev main_call4_v2 : Ref sig .tc := ⟨.hbm, 336, rfl⟩
abbrev main_call4_cst : Ref sig .tc := ⟨.hbm, 337, rfl⟩
abbrev main_call4_v3 : Ref sig .tc := ⟨.hbm, 338, rfl⟩
abbrev main_call4_v4 : Ref sig .tc := ⟨.hbm, 339, rfl⟩
abbrev main_call4_cst_0 : Ref sig .tc := ⟨.hbm, 340, rfl⟩
abbrev main_call4_v5 : Ref sig .tc := ⟨.hbm, 341, rfl⟩
abbrev main_call4_v6 : Ref sig .tc := ⟨.hbm, 342, rfl⟩
abbrev main_call4_v7 : Ref sig .tc := ⟨.hbm, 343, rfl⟩
abbrev main_call4_v8 : Ref sig .tc := ⟨.hbm, 344, rfl⟩
abbrev main_call4_v9 : Ref sig .tc := ⟨.hbm, 345, rfl⟩
abbrev main_call4_v10 : Ref sig .tc := ⟨.hbm, 346, rfl⟩
abbrev main_call4_v11 : Ref sig .tc := ⟨.hbm, 347, rfl⟩
abbrev main_call4_cst_1 : Ref sig .tc := ⟨.hbm, 348, rfl⟩
abbrev main_call4_v12 : Ref sig .tc := ⟨.hbm, 349, rfl⟩
abbrev main_call4_v13 : Ref sig .tc := ⟨.hbm, 350, rfl⟩
abbrev main_call4_v14 : Ref sig .tc := ⟨.hbm, 351, rfl⟩
abbrev main_call4_v15 : Ref sig .tc := ⟨.hbm, 352, rfl⟩
abbrev main_call4_call0_v0 : Ref sig .tc := ⟨.hbm, 353, rfl⟩
abbrev main_call4_call0_cst : Ref sig .tc := ⟨.hbm, 354, rfl⟩
abbrev main_call4_call0_c : Ref sig .tc := ⟨.hbm, 355, rfl⟩
abbrev main_call4_call0_v1_0 : Ref sig .tc := ⟨.hbm, 356, rfl⟩
abbrev main_call4_v16 : Ref sig .tc := ⟨.hbm, 357, rfl⟩
abbrev main_call4_call1_c : Ref sig .tc := ⟨.hbm, 358, rfl⟩
abbrev main_call4_call1_v0 : Ref sig .tc := ⟨.hbm, 359, rfl⟩
abbrev main_call4_call1_v1 : Ref sig .tc := ⟨.hbm, 360, rfl⟩
abbrev main_call4_call1_c_0 : Ref sig .tc := ⟨.hbm, 361, rfl⟩
abbrev main_call4_call1_v2 : Ref sig .tc := ⟨.hbm, 362, rfl⟩
abbrev main_call4_call1_v3 : Ref sig .tc := ⟨.hbm, 363, rfl⟩
abbrev main_call4_call1_v4 : Ref sig .tc := ⟨.hbm, 364, rfl⟩
abbrev main_call4_call1_v5 : Ref sig .tc := ⟨.hbm, 365, rfl⟩
abbrev main_call4_call1_c_1 : Ref sig .tc := ⟨.hbm, 366, rfl⟩
abbrev main_call4_call1_c_2 : Ref sig .tc := ⟨.hbm, 367, rfl⟩
abbrev main_call4_call1_v6 : Ref sig .tc := ⟨.hbm, 368, rfl⟩
abbrev main_call4_call1_v7 : Ref sig .tc := ⟨.hbm, 369, rfl⟩
abbrev main_call4_call1_v8 : Ref sig .tc := ⟨.hbm, 370, rfl⟩
abbrev main_call4_call1_v9 : Ref sig .tc := ⟨.hbm, 371, rfl⟩
abbrev main_call4_call1_v10 : Ref sig .tc := ⟨.hbm, 372, rfl⟩
abbrev main_call4_call1_v11 : Ref sig .tc := ⟨.hbm, 373, rfl⟩
abbrev main_call4_call1_c_3 : Ref sig .tc := ⟨.hbm, 374, rfl⟩
abbrev main_call4_call1_v12 : Ref sig .tc := ⟨.hbm, 375, rfl⟩
abbrev main_call4_call1_v13 : Ref sig .tc := ⟨.hbm, 376, rfl⟩
abbrev main_call4_call1_v14 : Ref sig .tc := ⟨.hbm, 377, rfl⟩
abbrev main_call4_call1_cst : Ref sig .tc := ⟨.hbm, 378, rfl⟩
abbrev main_call4_call1_v15 : Ref sig .tc := ⟨.hbm, 379, rfl⟩
abbrev main_call4_v17 : Ref sig .tc := ⟨.hbm, 380, rfl⟩
abbrev main_call4_call2_v0 : Ref sig .tc := ⟨.hbm, 381, rfl⟩
abbrev main_call4_call2_v1 : Ref sig .tc := ⟨.hbm, 382, rfl⟩
abbrev main_call4_call2_v2 : Ref sig .tc := ⟨.hbm, 383, rfl⟩
abbrev main_call4_call2_v3 : Ref sig .tc := ⟨.hbm, 384, rfl⟩
abbrev main_call4_call2_v4 : Ref sig .tc := ⟨.hbm, 385, rfl⟩
abbrev main_call4_v18 : Ref sig .tc := ⟨.hbm, 386, rfl⟩
abbrev main_call4_cst_2 : Ref sig .tc := ⟨.hbm, 387, rfl⟩
abbrev main_call4_v19 : Ref sig .tc := ⟨.hbm, 388, rfl⟩
abbrev main_call4_cst_3 : Ref sig .tc := ⟨.hbm, 389, rfl⟩
abbrev main_call4_v20 : Ref sig .tc := ⟨.hbm, 390, rfl⟩
abbrev main_call4_v21 : Ref sig .tc := ⟨.hbm, 391, rfl⟩
abbrev main_call4_cst_4 : Ref sig .tc := ⟨.hbm, 392, rfl⟩
abbrev main_call4_v22 : Ref sig .tc := ⟨.hbm, 393, rfl⟩
abbrev main_call4_v23 : Ref sig .tc := ⟨.hbm, 394, rfl⟩
abbrev main_call4_v24 : Ref sig .tc := ⟨.hbm, 395, rfl⟩
abbrev main_call4_v25 : Ref sig .tc := ⟨.hbm, 396, rfl⟩
abbrev main_call4_cst_5 : Ref sig .tc := ⟨.hbm, 397, rfl⟩
abbrev main_call4_v26 : Ref sig .tc := ⟨.hbm, 398, rfl⟩
abbrev main_call4_v27 : Ref sig .tc := ⟨.hbm, 399, rfl⟩
abbrev main_v23_3 : Ref sig .tc := ⟨.hbm, 400, rfl⟩
abbrev main_call4_v29 : Ref sig .tc := ⟨.hbm, 401, rfl⟩
abbrev main_call4_v30 : Ref sig .tc := ⟨.hbm, 402, rfl⟩
abbrev main_call4_cst_6 : Ref sig .tc := ⟨.hbm, 403, rfl⟩
abbrev main_call4_v31 : Ref sig .tc := ⟨.hbm, 404, rfl⟩
abbrev main_call4_cst_7 : Ref sig .tc := ⟨.hbm, 405, rfl⟩
abbrev main_v23_2 : Ref sig .tc := ⟨.hbm, 406, rfl⟩
abbrev main_call4_v33 : Ref sig .tc := ⟨.hbm, 407, rfl⟩
abbrev main_call4_v34 : Ref sig .tc := ⟨.hbm, 408, rfl⟩
abbrev main_call4_v35 : Ref sig .tc := ⟨.hbm, 409, rfl⟩
abbrev main_v23_0 : Ref sig .tc := ⟨.hbm, 410, rfl⟩
abbrev main_v23_1 : Ref sig .tc := ⟨.hbm, 411, rfl⟩
abbrev main_v24 : Ref sig .tc := ⟨.hbm, 412, rfl⟩
abbrev main_v25 : Ref sig .tc := ⟨.hbm, 413, rfl⟩
abbrev main_v26 : Ref sig .tc := ⟨.hbm, 414, rfl⟩
abbrev main_v27 : Ref sig .tc := ⟨.hbm, 415, rfl⟩
abbrev main_call5_v0 : Ref sig .tc := ⟨.hbm, 416, rfl⟩
abbrev main_call5_v1 : Ref sig .tc := ⟨.hbm, 417, rfl⟩
abbrev main_call5_v2 : Ref sig .tc := ⟨.hbm, 418, rfl⟩
abbrev main_call5_cst : Ref sig .tc := ⟨.hbm, 419, rfl⟩
abbrev main_call5_v3 : Ref sig .tc := ⟨.hbm, 420, rfl⟩
abbrev main_call5_v4 : Ref sig .tc := ⟨.hbm, 421, rfl⟩
abbrev main_call5_cst_0 : Ref sig .tc := ⟨.hbm, 422, rfl⟩
abbrev main_call5_v5 : Ref sig .tc := ⟨.hbm, 423, rfl⟩
abbrev main_call5_v6 : Ref sig .tc := ⟨.hbm, 424, rfl⟩
abbrev main_call5_v7 : Ref sig .tc := ⟨.hbm, 425, rfl⟩
abbrev main_call5_v8 : Ref sig .tc := ⟨.hbm, 426, rfl⟩
abbrev main_call5_v9 : Ref sig .tc := ⟨.hbm, 427, rfl⟩
abbrev main_call5_v10 : Ref sig .tc := ⟨.hbm, 428, rfl⟩
abbrev main_call5_v11 : Ref sig .tc := ⟨.hbm, 429, rfl⟩
abbrev main_call5_cst_1 : Ref sig .tc := ⟨.hbm, 430, rfl⟩
abbrev main_call5_v12 : Ref sig .tc := ⟨.hbm, 431, rfl⟩
abbrev main_call5_v13 : Ref sig .tc := ⟨.hbm, 432, rfl⟩
abbrev main_call5_v14 : Ref sig .tc := ⟨.hbm, 433, rfl⟩
abbrev main_call5_v15 : Ref sig .tc := ⟨.hbm, 434, rfl⟩
abbrev main_call5_call0_v0 : Ref sig .tc := ⟨.hbm, 435, rfl⟩
abbrev main_call5_call0_cst : Ref sig .tc := ⟨.hbm, 436, rfl⟩
abbrev main_call5_call0_c : Ref sig .tc := ⟨.hbm, 437, rfl⟩
abbrev main_call5_call0_v1_0 : Ref sig .tc := ⟨.hbm, 438, rfl⟩
abbrev main_call5_v16 : Ref sig .tc := ⟨.hbm, 439, rfl⟩
abbrev main_call5_call1_c : Ref sig .tc := ⟨.hbm, 440, rfl⟩
abbrev main_call5_call1_v0 : Ref sig .tc := ⟨.hbm, 441, rfl⟩
abbrev main_call5_call1_v1 : Ref sig .tc := ⟨.hbm, 442, rfl⟩
abbrev main_call5_call1_c_0 : Ref sig .tc := ⟨.hbm, 443, rfl⟩
abbrev main_call5_call1_v2 : Ref sig .tc := ⟨.hbm, 444, rfl⟩
abbrev main_call5_call1_v3 : Ref sig .tc := ⟨.hbm, 445, rfl⟩
abbrev main_call5_call1_v4 : Ref sig .tc := ⟨.hbm, 446, rfl⟩
abbrev main_call5_call1_v5 : Ref sig .tc := ⟨.hbm, 447, rfl⟩
abbrev main_call5_call1_c_1 : Ref sig .tc := ⟨.hbm, 448, rfl⟩
abbrev main_call5_call1_c_2 : Ref sig .tc := ⟨.hbm, 449, rfl⟩
abbrev main_call5_call1_v6 : Ref sig .tc := ⟨.hbm, 450, rfl⟩
abbrev main_call5_call1_v7 : Ref sig .tc := ⟨.hbm, 451, rfl⟩
abbrev main_call5_call1_v8 : Ref sig .tc := ⟨.hbm, 452, rfl⟩
abbrev main_call5_call1_v9 : Ref sig .tc := ⟨.hbm, 453, rfl⟩
abbrev main_call5_call1_v10 : Ref sig .tc := ⟨.hbm, 454, rfl⟩
abbrev main_call5_call1_v11 : Ref sig .tc := ⟨.hbm, 455, rfl⟩
abbrev main_call5_call1_c_3 : Ref sig .tc := ⟨.hbm, 456, rfl⟩
abbrev main_call5_call1_v12 : Ref sig .tc := ⟨.hbm, 457, rfl⟩
abbrev main_call5_call1_v13 : Ref sig .tc := ⟨.hbm, 458, rfl⟩
abbrev main_call5_call1_v14 : Ref sig .tc := ⟨.hbm, 459, rfl⟩
abbrev main_call5_call1_cst : Ref sig .tc := ⟨.hbm, 460, rfl⟩
abbrev main_call5_call1_v15 : Ref sig .tc := ⟨.hbm, 461, rfl⟩
abbrev main_call5_v17 : Ref sig .tc := ⟨.hbm, 462, rfl⟩
abbrev main_call5_call2_v0 : Ref sig .tc := ⟨.hbm, 463, rfl⟩
abbrev main_call5_call2_v1 : Ref sig .tc := ⟨.hbm, 464, rfl⟩
abbrev main_call5_call2_v2 : Ref sig .tc := ⟨.hbm, 465, rfl⟩
abbrev main_call5_call2_v3 : Ref sig .tc := ⟨.hbm, 466, rfl⟩
abbrev main_call5_call2_v4 : Ref sig .tc := ⟨.hbm, 467, rfl⟩
abbrev main_call5_v18 : Ref sig .tc := ⟨.hbm, 468, rfl⟩
abbrev main_call5_cst_2 : Ref sig .tc := ⟨.hbm, 469, rfl⟩
abbrev main_call5_v19 : Ref sig .tc := ⟨.hbm, 470, rfl⟩
abbrev main_call5_cst_3 : Ref sig .tc := ⟨.hbm, 471, rfl⟩
abbrev main_call5_v20 : Ref sig .tc := ⟨.hbm, 472, rfl⟩
abbrev main_call5_v21 : Ref sig .tc := ⟨.hbm, 473, rfl⟩
abbrev main_call5_cst_4 : Ref sig .tc := ⟨.hbm, 474, rfl⟩
abbrev main_call5_v22 : Ref sig .tc := ⟨.hbm, 475, rfl⟩
abbrev main_call5_v23 : Ref sig .tc := ⟨.hbm, 476, rfl⟩
abbrev main_call5_v24 : Ref sig .tc := ⟨.hbm, 477, rfl⟩
abbrev main_call5_v25 : Ref sig .tc := ⟨.hbm, 478, rfl⟩
abbrev main_call5_cst_5 : Ref sig .tc := ⟨.hbm, 479, rfl⟩
abbrev main_call5_v26 : Ref sig .tc := ⟨.hbm, 480, rfl⟩
abbrev main_call5_v27 : Ref sig .tc := ⟨.hbm, 481, rfl⟩
abbrev main_v28_3 : Ref sig .tc := ⟨.hbm, 482, rfl⟩
abbrev main_call5_v29 : Ref sig .tc := ⟨.hbm, 483, rfl⟩
abbrev main_call5_v30 : Ref sig .tc := ⟨.hbm, 484, rfl⟩
abbrev main_call5_cst_6 : Ref sig .tc := ⟨.hbm, 485, rfl⟩
abbrev main_call5_v31 : Ref sig .tc := ⟨.hbm, 486, rfl⟩
abbrev main_call5_cst_7 : Ref sig .tc := ⟨.hbm, 487, rfl⟩
abbrev main_v28_2 : Ref sig .tc := ⟨.hbm, 488, rfl⟩
abbrev main_call5_v33 : Ref sig .tc := ⟨.hbm, 489, rfl⟩
abbrev main_call5_v34 : Ref sig .tc := ⟨.hbm, 490, rfl⟩
abbrev main_call5_v35 : Ref sig .tc := ⟨.hbm, 491, rfl⟩
abbrev main_v28_0 : Ref sig .tc := ⟨.hbm, 492, rfl⟩
abbrev main_v28_1 : Ref sig .tc := ⟨.hbm, 493, rfl⟩
abbrev main_v29 : Ref sig .tc := ⟨.hbm, 494, rfl⟩
abbrev main_v30 : Ref sig .tc := ⟨.hbm, 495, rfl⟩
abbrev main_v31 : Ref sig .tc := ⟨.hbm, 496, rfl⟩
abbrev main_v32 : Ref sig .tc := ⟨.hbm, 497, rfl⟩
abbrev main_v33 : Ref sig .tc := ⟨.hbm, 498, rfl⟩
abbrev main_v34 : Ref sig .tc := ⟨.hbm, 499, rfl⟩
abbrev main_v35 : Ref sig .tc := ⟨.hbm, 500, rfl⟩
abbrev main_v36 : Ref sig .tc := ⟨.hbm, 501, rfl⟩
abbrev main_v37 : Ref sig .tc := ⟨.hbm, 502, rfl⟩
abbrev main_cst_0 : Ref sig .tc := ⟨.hbm, 503, rfl⟩
abbrev main_v38 : Ref sig .tc := ⟨.hbm, 504, rfl⟩
abbrev main_v39 : Ref sig .tc := ⟨.hbm, 505, rfl⟩
abbrev main_v40 : Ref sig .tc := ⟨.hbm, 506, rfl⟩
abbrev main_v41 : Ref sig .tc := ⟨.hbm, 507, rfl⟩
abbrev main_v42 : Ref sig .tc := ⟨.hbm, 508, rfl⟩
abbrev main_v43 : Ref sig .tc := ⟨.hbm, 509, rfl⟩
abbrev main_cst_1 : Ref sig .tc := ⟨.hbm, 510, rfl⟩
abbrev main_v44 : Ref sig .tc := ⟨.hbm, 511, rfl⟩
abbrev main_cst_2 : Ref sig .tc := ⟨.hbm, 512, rfl⟩
abbrev main_v45 : Ref sig .tc := ⟨.hbm, 513, rfl⟩
abbrev main_v46 : Ref sig .tc := ⟨.hbm, 514, rfl⟩
abbrev main_v47 : Ref sig .tc := ⟨.hbm, 515, rfl⟩
abbrev main_v48 : Ref sig .tc := ⟨.hbm, 516, rfl⟩
abbrev main_v49 : Ref sig .tc := ⟨.hbm, 517, rfl⟩
abbrev main_v50 : Ref sig .tc := ⟨.hbm, 518, rfl⟩
abbrev main_cst_3 : Ref sig .tc := ⟨.hbm, 519, rfl⟩
abbrev main_v51 : Ref sig .tc := ⟨.hbm, 520, rfl⟩

abbrev nD : Nat := 1
abbrev τ : Topo := Topo.v7x

variable {F : FTy → Type} [FloatOps F]
-- ==== Proof.RunKernelIdeal.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

/-- The test of the body's opening branch at grid point `i`: the point is the first. -/
abbrev isFirst (i : grid0.Coords) : Prop := Scalar.cmpi .ne (Scalar.extui (Scalar.cmpi .eq (BitVec.ofNat 32 (i 0).val) 0#32)) 0#32 = 1#1

set_option maxHeartbeats 4000000 in
/-- The body at any grid point, on twelve buffers held whole: it runs without a fault, leaves the two inputs' buffers as
    they were and every other buffer at some contents. One case for each way its two branches can go. -/
theorem run_any (c : Dev nD) (i : grid0.Coords) (a1 : Memref sig .tc .vmem S512x512 .f32) (h1 : a1.IsWhole) (a2 : Memref sig .tc .vmem S6x1024x512 .f32) (h2 : a2.IsWhole) (a3 : Memref sig .tc .vmem S512x512 .f32) (h3 : a3.IsWhole) (a4 : Memref sig .tc .vmem S6x512 .i32) (h4 : a4.IsWhole) (a5 : Memref sig .tc .vmem S1x1 .f32) (h5 : a5.IsWhole) (a6 : Memref sig .tc .vmem S1x1 .f32) (h6 : a6.IsWhole) (a7 : Memref sig .tc .vmem S8x1024 .f32) (h7 : a7.IsWhole) (a8 : Memref sig .tc .vmem S8x1024 .f32) (h8 : a8.IsWhole) (a9 : Memref sig .tc .vmem S8x128 .f32) (h9 : a9.IsWhole) (a10 : Memref sig .tc .vmem S6x1024x512 .bf16) (h10 : a10.IsWhole) (a11 : Memref sig .tc .vmem S6x1024x512 .bf16) (h11 : a11.IsWhole) (a12 : Memref sig .tc .vmem S6x1024x512 .bf16) (h12 : a12.IsWhole) (x1 : Vec F S512x512 .f32) (x2 : Vec F S6x1024x512 .f32)
    (E : Set ℕ) (Q : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
      ∗ (iprop(owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)) -∗ Q ⟨⟩))
    ⊢ wp frame (wpE (defs₀ (F := F)) Variants.none c none) E (cc0__rvq_body i a1 h1 a2 h2 a3 h3 a4 h4 a5 h5 a6 h6 a7 h7 a8 h8 a9 h9 a10 h10 a11 h11 a12 h12) Q := by
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_unfold [cc0__rvq_body]
  by_cases hc0 : isFirst i <;> by_cases hc1 : k0_cond2 i = 1#1
  all_goals
    sl_exec
    sl_step
    iapply Hk
    isplitl [H1]; · iexists _; isplitr; · ipureintro; exact hf1
                    iexact H1
    isplitl [H2]; · iexists _; isplitr; · ipureintro; exact hf2
                    iexact H2
    isplitl [H3]; · iexists _; iexists _; isplitr; swap; · iexact H3
                    ipureintro; rfl
    isplitl [H4]; · iexists _; iexists _; isplitr; swap; · iexact H4
                    ipureintro; rfl
    isplitl [H5]; · iexists _; iexists _; isplitr; swap; · iexact H5
                    ipureintro; rfl
    isplitl [H6]; · iexists _; iexists _; isplitr; swap; · iexact H6
                    ipureintro; rfl
    isplitl [H7]; · iexists _; iexists _; isplitr; swap; · iexact H7
                    ipureintro; rfl
    isplitl [H8]; · iexists _; iexists _; isplitr; swap; · iexact H8
                    ipureintro; rfl
    isplitl [H9]; · iexists _; iexists _; isplitr; swap; · iexact H9
                    ipureintro; rfl
    isplitl [H10]; · iexists _; iexists _; isplitr; swap; · iexact H10
                     ipureintro; rfl
    isplitl [H11]; · iexists _; iexists _; isplitr; swap; · iexact H11
                     ipureintro; rfl
    iexists _; iexists _; isplitr; swap; · iexact H12
    ipureintro; rfl

/-! ## The launch -/

variable (m : (ℓ : Loc nD τ sig) → Buf (Elt F) ℓ) (ρ : Dev nD → PrngReg)

/-- The pipeline's data for the frame: the arrays as the region finds them, each input's staging buffer at its block after
    the body, nothing said of the four results (`forgotten`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed (cfg := cfg0) 2 t
    | ⟨3, _⟩ => Dat.unnamed (cfg := cfg0) 3 t
    | ⟨4, _⟩ => Dat.unnamed (cfg := cfg0) 4 t
    | ⟨5, _⟩ => Dat.unnamed (cfg := cfg0) 5 t
  Φ _ := Pipeline.ΦA spec0 c
  q _ := fullShare
  owed _ := 0

/-- The windows of which the frame says nothing: the results. -/
def forgotten (w : Fin cfg0.W) : Bool := match w with
  | ⟨0, _⟩ => false
  | ⟨1, _⟩ => false
  | _ => true

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d

/-- The body's obligation at every grid point. -/
theorem body_obligation (c : Dev nD) : BodyObligation (dats (F := F) m 0 c) (defs₀ (F := F)) Variants.none () Set.univ forgotten := fun t => by
  rw [bigSep_W0, bigSep_W0]
  sl_whnfR [defs₀, Defs.onTc]
  simp only [before0_0, before0_1, show forgotten 0 = false from rfl, show forgotten 1 = false from rfl, show forgotten 2 = true from rfl,
    show forgotten 3 = true from rfl, show forgotten 4 = true from rfl, show forgotten 5 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1]
  unfold Pipeline.ΦA
  rw [scopedRest0_eq]
  simp only [← owns_whole]
  iintro ⟨⟨⟨H7, H8, H9, H10, H11, H12⟩, Hg⟩, Ho, ⟨%d0, H1⟩, ⟨%d1, H2⟩, H3, H4, H5, H6⟩
  iapply (run_any (F := F) c (grid0.coords t) (win0_0.stage (cfg0.slots t 0)) (hstage0_0 _) (win0_1.stage (cfg0.slots t 1)) (hstage0_1 _)
    (win0_2.stage (cfg0.slots t 2)) (hstage0_2 _) (win0_3.stage (cfg0.slots t 3)) (hstage0_3 _) (win0_4.stage (cfg0.slots t 4)) (hstage0_4 _)
    (win0_5.stage (cfg0.slots t 5)) (hstage0_5 _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H7 H8 H9 H10 H11 H12 Hg]
  · isplitl [H7 H8 H9 H10 H11 H12]
    · isplitl [H7]; · iexact H7
      isplitl [H8]; · iexact H8
      isplitl [H9]; · iexact H9
      isplitl [H10]; · iexact H10
      isplitl [H11]; · iexact H11
      iexact H12
    · iexact Hg
  isplitl [Ho]; · iexact Ho
  isplitl [H1]; · iexact H1
  isplitl [H2]; · iexact H2
  isplitl [H3]; · iexact H3
  isplitl [H4]; · iexact H4
  isplitl [H5]; · iexact H5
  iexact H6

/-- The buffers that the host operations after the region write. -/
def after_bufs : Finset (Ref sig .tc) := {main_v3, main_v4, main_v5, main_v6, main_v7, main_v8}

theorem sfx_writes : ∀ ops ∈ ([hostOps1] : List (List (HloOp τ sig (Elt F)))), ∀ op ∈ ops,
    ∀ b : Ref sig .tc, Proc.devRef .tc b ∈ op.writes → b ∈ after_bufs := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro b hb; simp only [StableHlo.nullary_writes, StableHlo.unary_writes, StableHlo.binary_writes, StableHlo.ternary_writes, StableHlo.reshape_writes, Finset.mem_singleton] at hb; cases Proc.devRef_injective _ hb; decide

set_option backward.isDefEq.respectTransparency.types false in
/-- The whole program: it runs, its two arguments end as launched and every semaphore reads zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget cfgs (dats m) (0 : Fin 1) launch0 defs₀ Variants.none forgotten after_bufs m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := fun _ _ => rfl) (hΦ := fun _ _ => rfl) (Q' := _)
    (hQ' := fun r h => ⟨fun c => ⟨((h.1 c).2 main_arg0 (Finset.mem_sdiff.mpr ⟨Pipeline.mem_restRefs_of main_arg0 (by decide) (by decide), by decide⟩)).trans (V_main_arg0 m c),
      (h.1.arr_in c 1 rfl).trans (V_main_arg1 m c)⟩, h.2⟩)

end Cert.KernelIdeal.Hand

end
-- ==== Proof.RunReference.lean ====
module

public import proofs.«01_k».proof.Defs
public import proofs.«01_k».proof.Proof.Gen.ReferenceIdeal
public import proofs.«01_k».proof.Proof.Gen.Pre_finite_and_no_tie
public import Idealize.ShloMosaic.Adequacy
public import Idealize.ShloMosaic.Init
public import Idealize.ShloMosaic.Lib.Claim

@[expose] public section

set_option maxRecDepth 16384

noncomputable section

namespace Cert.ReferenceIdeal.Hand

open Idealize.ShloMosaic Idealize.SL.Sem Idealize.ShloMosaic.StableHlo Facts₀ Facts

attribute [local instance] Cert.ReferenceIdeal.Gen.facts Cert.Pre_finite_and_no_tie.Gen.facts

variable {F : FTy → Type} [FloatOps F]

/-- A line of operations followed by another line is the two lists put one after the other. -/
theorem isSeq_bind {Λ : Labels} {Val : EltTy → Type} {p k : Prog (TpuEff nD τ sig Val Λ .tc) PUnit}
    {a b : List (HloOp τ sig Val)} (hp : IsSeq p a) (hk : IsSeq k b) : IsSeq (p >>= fun _ => k) (a ++ b) := by
  unfold IsSeq at *; rw [hp, hk, seq_append]

/-- The operations of the first layer's call. -/
def layerOps (a : TRef sig ⟨S8x512x1024, .f32⟩) (b : TRef sig ⟨S1024x512, .f32⟩) (φ : fn_quantize_layer.Bufs) :
    {ops : List (HloOp τ sig (Elt F)) // IsSeq (nD := nD) (fn_quantize_layer.body a b φ) ops} := by
  apply Subtype.mk; unfold fn_quantize_layer.body; hlo_seq

/-- The operations of a later layer's call. -/
def layerOps' (a : TRef sig ⟨S8x512x1024, .f32⟩) (b : TRef sig ⟨S1024x512, .f32⟩) (φ : fn_quantize_layer_0.Bufs) :
    {ops : List (HloOp τ sig (Elt F)) // IsSeq (nD := nD) (fn_quantize_layer_0.body a b φ) ops} := by
  apply Subtype.mk; unfold fn_quantize_layer_0.body; hlo_seq

/-- The operations of the whole reference. -/
def mainOps : {ops : List (HloOp τ sig (Elt F)) // ∀ d, IsSeq (nD := nD) (main (F := F) d) ops} := by
  apply Subtype.mk; intro d; unfold main
  iterate 4 apply IsSeq.cons
  apply isSeq_bind (layerOps _ _ _).2
  iterate 5
    iterate 4 apply IsSeq.cons
    apply isSeq_bind (layerOps' _ _ _).2
  hlo_seq

/-- Every buffer that the first layer's operations name is a buffer of the device. -/
theorem layer_bufs (a b φ) : (layerOps (F := F) a b φ).1.Forall fun op => op.bufs ⊆ tcRefs τ sig := by
  unfold layerOps; simp

/-- The same for a later layer. -/
theorem layer_bufs' (a b φ) : (layerOps' (F := F) a b φ).1.Forall fun op => op.bufs ⊆ tcRefs τ sig := by
  unfold layerOps'; simp

/-- The same for the whole reference. -/
theorem main_bufs : (mainOps (F := F)).1.Forall fun op => op.bufs ⊆ tcRefs τ sig := by
  unfold mainOps; simp only [List.forall_append, List.forall_cons, layer_bufs, layer_bufs']; simp

/-- Every operation of the reference determines what it writes. -/
theorem main_fresh : (mainOps (F := F)).1.Forall fun op => op.fresh = ∅ :=
  forall_fresh_of_map rfl

/-- The reference runs; every buffer ends at what its operations make of the launch contents, every semaphore at zero. -/
theorem run (m : (ℓ : Loc nD τ sig) → Buf (Elt F) ℓ) (g : Dev nD → PrngReg) :
    θ_run (defs (F := F)) (onTc (τ := τ) (main (F := F))) ⟨m, fun _ => 0, g⟩ fun r =>
      (∀ (d : Dev nD) (b : Ref sig .tc),
        r.2.mem ((d.tc : Thread nD τ).loc b) = after (mainOps (F := F)).1 (launchContents m d) (Proc.devRef .tc b))
      ∧ r.2.sem = fun _ => 0 :=
  θ_run_mono (run_hlo _ _ (mainOps (F := F)).2 (by decide) (by decide) main_bufs
    (List.forall_iff_forall_mem.mp main_fresh) m g) fun r h => ⟨h, sem_eq_zero_of_no_sems rfl r.2⟩

/-! ## What one layer computes, as functions of the residual and the codebook -/

/-- The tokens as rows. -/
def rows (r : FVec F S8x512x1024 .f32) : FVec F S8192x512 .f32 :=
  shapeCast S8192x512 (transpose S8x1024x512 [0, 2, 1] r transposes_S8x512x1024_S8x1024x512_0_2_1) shapeCasts_S8x1024x512_S8192x512

/-- The squared distance of every token to every code. -/
def dist (x : FVec F S8192x512 .f32) (b : FVec F S1024x512 .f32) : FVec F S8192x1024 .f32 :=
  addf (subf
      (broadcastInDim S8192x1024 ![0, 1] bcast_S8192x1_S8192x1024_0_1 (broadcastInDim S8192x1 ![0] bcast_S8192_S8192x1_0
        (Host.reduceAdd (mulf x x) (constant S_ .f32 0x00000000#32) reducesTo_S8192x512_S8192_d1 h_S_)))
      (Host.dotGeneral dot_S8192x512_S512x1024_S8192x1024_1_0_0_1_n_n none
        (mulf (broadcastInDim S8192x512 ![] bcast_S_S8192x512 (constant S_ .f32 0x40000000#32)) x)
        (transpose S512x1024 [1, 0] b transposes_S1024x512_S512x1024_1_0)))
    (broadcastInDim S8192x1024 ![0, 1] bcast_S1x1024_S8192x1024_0_1 (broadcastInDim S1x1024 ![1] bcast_S1024_S1x1024_1
      (Host.reduceAdd (mulf b b) (constant S_ .f32 0x00000000#32) reducesTo_S1024x512_S1024_d1 h_S_)))

/-- The index of the nearest code of every token. -/
def nearest (d : FVec F S8192x1024 .f32) : IVec S8192 32 := fun j =>
  (Host.argReduce reducer_argmin_f32_i32 d (iotaInDim S8192x1024 32 1) (constant S_ .f32 0x7F800000#32) (constantI S_ 32 0#32)
    reducesTo_S8192x1024_S8192_d1 h_S_ j).2

/-- The indices with a negative one counted from the end, as the start of one row of the codebook each. -/
def starts (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- The codes at the indices; an index outside the codebook reads as not a number. -/
def codes (b : FVec F S1024x512 .f32) (i : IVec S8192 32) : FVec F S8192x512 .f32 :=
  select (broadcastInDim S8192x512 ![0] bcast_S8192_S8192x512_0
      (Host.reduce IntOp.andi
        (andi (cmpi .sge (starts i) (broadcastInDim S8192x1 ![] bcast_S_S8192x1 (constantI S_ 32 0#32)))
          (cmpi .sle (starts i) (broadcastInDim S8192x1 ![0, 1] bcast_S1x1_S8192x1_0_1
            (broadcastInDim S1x1 ![1] bcast_S1_S1x1_1 (constantI S1 32 1023#32)))))
        (constantI S_ 1 1#1) reducesTo_S8192x1_S8192_d1 h_S_))
    (Host.gather gather_S1024x512_S8192x1_S8192x512_1_0_n_n_0_1_1512 b (starts i))
    (broadcastInDim S8192x512 ![] bcast_S_S8192x512 (constant S_ .f32 0x7FC00000#32))

/-- Which code each token takes, as zeros and ones. -/
def hot (i : IVec S8192 32) : FVec F S8192x1024 .f32 :=
  uitofp .f32 (cmpi .eq
    (broadcastInDim S8192x1024 ![0, 1] bcast_S8192x1_S8192x1024_0_1 (broadcastInDim S8192x1 ![0] bcast_S8192_S8192x1_0 i))
    (broadcastInDim S8192x1024 ![0, 1] bcast_S1x1024_S8192x1024_0_1 (iotaInDim S1x1024 32 1)))

/-- How often each code is taken, as a share of the tokens. -/
def share (h : FVec F S8192x1024 .f32) : FVec F S1024 .f32 :=
  Host.divf (Host.reduceAdd h (constant S_ .f32 0x00000000#32) reducesTo_S8192x1024_S1024_d0 h_S_)
    (broadcastInDim S1024 ![] bcast_S_S1024 (constant S_ .f32 0x46000000#32))

/-- The perplexity of the shares. -/
def perp (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- The mean squared difference of tokens and codes. -/
def commit (x c : FVec F S8192x512 .f32) : FVec F S_ .f32 :=
  Host.divf (Host.reduceAdd (mulf (subf x c) (subf x c)) (constant S_ .f32 0x00000000#32) reducesTo_S8192x512_S_d0_1 h_S_)
    (constant S_ .f32 0x4A800000#32)

/-- The tokens moved to their codes, in the layout of the input. -/
def moved (x c : FVec F S8192x512 .f32) : FVec F S8x512x1024 .f32 :=
  transpose S8x512x1024 [0, 2, 1] (shapeCast S8x1024x512 (addf x (subf c x)) shapeCasts_S8192x512_S8x1024x512)
    transposes_S8x1024x512_S8x512x1024_0_2_1

/-- A layer's indices. -/
def layIdx (r : FVec F S8x512x1024 .f32) (b : FVec F S1024x512 .f32) : IVec S8192 32 := nearest (dist (rows r) b)

/-- A layer's first result: the quantized residual. -/
def layOut (r : FVec F S8x512x1024 .f32) (b : FVec F S1024x512 .f32) : FVec F S8x512x1024 .f32 :=
  moved (rows r) (codes b (layIdx r b))

/-- A layer's second result: the indices by batch. -/
def layIdx2 (r : FVec F S8x512x1024 .f32) (b : FVec F S1024x512 .f32) : IVec S8x1024 32 :=
  shapeCast S8x1024 (layIdx r b) shapeCasts_S8192_S8x1024

/-- A layer's third result: the loss. -/
def layLoss (r : FVec F S8x512x1024 .f32) (b : FVec F S1024x512 .f32) : FVec F S_ .f32 :=
  commit (rows r) (codes b (layIdx r b))

/-- A layer's fourth result: the perplexity. -/
def layPerp (r : FVec F S8x512x1024 .f32) (b : FVec F S1024x512 .f32) : FVec F S_ .f32 := perp (share (hot (layIdx r b)))

end Cert.ReferenceIdeal.Hand
end
-- ==== Proof.RefBase.lean ====
module

public import proofs.«01_k».proof.Proof.RunReference

@[expose] public section

set_option maxRecDepth 16384

noncomputable section

namespace Cert.ReferenceIdeal.Hand

open Idealize.ShloMosaic Idealize.SL.Sem Idealize.ShloMosaic.StableHlo Facts₀ Facts

attribute [local instance] Cert.ReferenceIdeal.Gen.facts Cert.Pre_finite_and_no_tie.Gen.facts

variable {F : FTy → Type} [FloatOps F]

/-- Two lines after each other, read from the end. -/
theorem after_two {Val : EltTy → Type} (a b : List (HloOp τ sig Val)) (V : Valuation τ sig Val) :
    after (a ++ b) V = after b (after a V) := by
  induction a generalizing V with
  | nil => rfl
  | cons o a ih => exact ih _

/-- `W` lists, in order, the one buffer that each operation of `ops` writes. -/
def Writes (ops : List (HloOp τ sig (Elt F))) (W : List (Ref sig .tc)) : Prop :=
  ops.map HloOp.writes = W.map fun r => {Proc.devRef (τ := τ) .tc r}

theorem writes_nil : Writes (F := F) [] [] := rfl

theorem writes_cons {op : HloOp τ sig (Elt F)} {r : Ref sig .tc} {ops : List (HloOp τ sig (Elt F))} {W : List (Ref sig .tc)}
    (h : op.writes = {Proc.devRef (τ := τ) .tc r}) (hs : Writes ops W) : Writes (op :: ops) (r :: W) :=
  congrArg₂ List.cons h hs

/-- The buffers that the first layer's operations write. -/
def layerW (a b φ) : {W : List (Ref sig .tc) // ∀ (F : FTy → Type) [FloatOps F], Writes (layerOps (F := F) a b φ).1 W} := by
  apply Subtype.mk; intro F _; unfold layerOps
  repeat (first | exact writes_nil | apply writes_cons rfl)

/-- The buffers that a later layer's operations write. -/
def layerW' (a b φ) : {W : List (Ref sig .tc) // ∀ (F : FTy → Type) [FloatOps F], Writes (layerOps' (F := F) a b φ).1 W} := by
  apply Subtype.mk; intro F _; unfold layerOps'
  repeat (first | exact writes_nil | apply writes_cons rfl)

/-- A buffer that the first layer does not write keeps its contents. -/
theorem keep {a b φ} (V : Valuation τ sig (Elt F)) {r : Ref sig .tc} (hr : r ∉ (layerW a b φ).1) :
    after (layerOps a b φ).1 V (no_index (Proc.devRef .tc r)) = V (Proc.devRef .tc r) :=
  after_of_writes_sub _ _ (forall_writes_sub_of_map ((layerW a b φ).2 F)) hr

/-- A buffer that a later layer does not write keeps its contents. -/
theorem keep' {a b φ} (V : Valuation τ sig (Elt F)) {r : Ref sig .tc} (hr : r ∉ (layerW' a b φ).1) :
    after (layerOps' a b φ).1 V (no_index (Proc.devRef .tc r)) = V (Proc.devRef .tc r) :=
  after_of_writes_sub _ _ (forall_writes_sub_of_map ((layerW' a b φ).2 F)) hr

/-! ## What each of the six calls leaves in its results -/

theorem call0 (V : Valuation τ sig (Elt F)) :
    after (layerOps (.of main_arg0) (.of main_v2) main_call0).1 V (no_index (Proc.devRef .tc main_v3_0)) = layOut (V (Proc.devRef .tc main_arg0)) (V (Proc.devRef .tc main_v2))
    ∧ after (layerOps (.of main_arg0) (.of main_v2) main_call0).1 V (no_index (Proc.devRef .tc main_v3_1)) = layIdx2 (V (Proc.devRef .tc main_arg0)) (V (Proc.devRef .tc main_v2))
    ∧ after (layerOps (.of main_arg0) (.of main_v2) main_call0).1 V (no_index (Proc.devRef .tc main_v3_2)) = layLoss (V (Proc.devRef .tc main_arg0)) (V (Proc.devRef .tc main_v2))
    ∧ after (layerOps (.of main_arg0) (.of main_v2) main_call0).1 V (no_index (Proc.devRef .tc main_v3_3)) = layPerp (V (Proc.devRef .tc main_arg0)) (V (Proc.devRef .tc main_v2)) := by
  unfold layerOps
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

theorem call1 (V : Valuation τ sig (Elt F)) :
    after (layerOps' (.of main_v4) (.of main_v7) main_call1).1 V (no_index (Proc.devRef .tc main_v8_0)) = layOut (V (Proc.devRef .tc main_v4)) (V (Proc.devRef .tc main_v7))
    ∧ after (layerOps' (.of main_v4) (.of main_v7) main_call1).1 V (no_index (Proc.devRef .tc main_v8_1)) = layIdx2 (V (Proc.devRef .tc main_v4)) (V (Proc.devRef .tc main_v7))
    ∧ after (layerOps' (.of main_v4) (.of main_v7) main_call1).1 V (no_index (Proc.devRef .tc main_v8_2)) = layLoss (V (Proc.devRef .tc main_v4)) (V (Proc.devRef .tc main_v7))
    ∧ after (layerOps' (.of main_v4) (.of main_v7) main_call1).1 V (no_index (Proc.devRef .tc main_v8_3)) = layPerp (V (Proc.devRef .tc main_v4)) (V (Proc.devRef .tc main_v7)) := by
  unfold layerOps'
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

theorem call2 (V : Valuation τ sig (Elt F)) :
    after (layerOps' (.of main_v9) (.of main_v12) main_call2).1 V (no_index (Proc.devRef .tc main_v13_0)) = layOut (V (Proc.devRef .tc main_v9)) (V (Proc.devRef .tc main_v12))
    ∧ after (layerOps' (.of main_v9) (.of main_v12) main_call2).1 V (no_index (Proc.devRef .tc main_v13_1)) = layIdx2 (V (Proc.devRef .tc main_v9)) (V (Proc.devRef .tc main_v12))
    ∧ after (layerOps' (.of main_v9) (.of main_v12) main_call2).1 V (no_index (Proc.devRef .tc main_v13_2)) = layLoss (V (Proc.devRef .tc main_v9)) (V (Proc.devRef .tc main_v12))
    ∧ after (layerOps' (.of main_v9) (.of main_v12) main_call2).1 V (no_index (Proc.devRef .tc main_v13_3)) = layPerp (V (Proc.devRef .tc main_v9)) (V (Proc.devRef .tc main_v12)) := by
  unfold layerOps'
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

theorem call3 (V : Valuation τ sig (Elt F)) :
    after (layerOps' (.of main_v14) (.of main_v17) main_call3).1 V (no_index (Proc.devRef .tc main_v18_0)) = layOut (V (Proc.devRef .tc main_v14)) (V (Proc.devRef .tc main_v17))
    ∧ after (layerOps' (.of main_v14) (.of main_v17) main_call3).1 V (no_index (Proc.devRef .tc main_v18_1)) = layIdx2 (V (Proc.devRef .tc main_v14)) (V (Proc.devRef .tc main_v17))
    ∧ after (layerOps' (.of main_v14) (.of main_v17) main_call3).1 V (no_index (Proc.devRef .tc main_v18_2)) = layLoss (V (Proc.devRef .tc main_v14)) (V (Proc.devRef .tc main_v17))
    ∧ after (layerOps' (.of main_v14) (.of main_v17) main_call3).1 V (no_index (Proc.devRef .tc main_v18_3)) = layPerp (V (Proc.devRef .tc main_v14)) (V (Proc.devRef .tc main_v17)) := by
  unfold layerOps'
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

theorem call4 (V : Valuation τ sig (Elt F)) :
    after (layerOps' (.of main_v19) (.of main_v22) main_call4).1 V (no_index (Proc.devRef .tc main_v23_0)) = layOut (V (Proc.devRef .tc main_v19)) (V (Proc.devRef .tc main_v22))
    ∧ after (layerOps' (.of main_v19) (.of main_v22) main_call4).1 V (no_index (Proc.devRef .tc main_v23_1)) = layIdx2 (V (Proc.devRef .tc main_v19)) (V (Proc.devRef .tc main_v22))
    ∧ after (layerOps' (.of main_v19) (.of main_v22) main_call4).1 V (no_index (Proc.devRef .tc main_v23_2)) = layLoss (V (Proc.devRef .tc main_v19)) (V (Proc.devRef .tc main_v22))
    ∧ after (layerOps' (.of main_v19) (.of main_v22) main_call4).1 V (no_index (Proc.devRef .tc main_v23_3)) = layPerp (V (Proc.devRef .tc main_v19)) (V (Proc.devRef .tc main_v22)) := by
  unfold layerOps'
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

theorem call5 (V : Valuation τ sig (Elt F)) :
    after (layerOps' (.of main_v24) (.of main_v27) main_call5).1 V (no_index (Proc.devRef .tc main_v28_0)) = layOut (V (Proc.devRef .tc main_v24)) (V (Proc.devRef .tc main_v27))
    ∧ after (layerOps' (.of main_v24) (.of main_v27) main_call5).1 V (no_index (Proc.devRef .tc main_v28_1)) = layIdx2 (V (Proc.devRef .tc main_v24)) (V (Proc.devRef .tc main_v27))
    ∧ after (layerOps' (.of main_v24) (.of main_v27) main_call5).1 V (no_index (Proc.devRef .tc main_v28_2)) = layLoss (V (Proc.devRef .tc main_v24)) (V (Proc.devRef .tc main_v27))
    ∧ after (layerOps' (.of main_v24) (.of main_v27) main_call5).1 V (no_index (Proc.devRef .tc main_v28_3)) = layPerp (V (Proc.devRef .tc main_v24)) (V (Proc.devRef .tc main_v27)) := by
  unfold layerOps'
  refine ⟨?_, ?_, ?_, ?_⟩ <;> after_results_simp <;> simp only [TRef.ofBuf_toBuf]
  · unfold layOut moved codes starts layIdx nearest dist rows; rfl
  · refine congrArg (fun z : IVec S8192 32 => shapeCast S8x1024 z shapeCasts_S8192_S8x1024) ?_
    unfold layIdx nearest dist rows; rfl
  · unfold layLoss commit codes starts layIdx nearest dist rows; rfl
  · unfold layPerp perp share hot layIdx nearest dist rows; rfl

/-! ## The whole reference -/

/-- The codebook of layer `q`. -/
def book (b : FVec F S6x1024x512 .f32) : ℕ → FVec F S1024x512 .f32
  | 0 => shapeCast S1024x512 (extractStridedSlice S1x1024x512 ![0, 0, 0] b slices_S6x1024x512_S1x1024x512_0_0_0) shapeCasts_S1x1024x512_S1024x512
  | 1 => shapeCast S1024x512 (extractStridedSlice S1x1024x512 ![1, 0, 0] b slices_S6x1024x512_S1x1024x512_1_0_0) shapeCasts_S1x1024x512_S1024x512
  | 2 => shapeCast S1024x512 (extractStridedSlice S1x1024x512 ![2, 0, 0] b slices_S6x1024x512_S1x1024x512_2_0_0) shapeCasts_S1x1024x512_S1024x512
  | 3 => shapeCast S1024x512 (extractStridedSlice S1x1024x512 ![3, 0, 0] b slices_S6x1024x512_S1x1024x512_3_0_0) shapeCasts_S1x1024x512_S1024x512
  | 4 => shapeCast S1024x512 (extractStridedSlice S1x1024x512 ![4, 0, 0] b slices_S6x1024x512_S1x1024x512_4_0_0) shapeCasts_S1x1024x512_S1024x512
  | _ => shapeCast S1024x512 (extractStridedSlice S1x1024x512 ![5, 0, 0] b slices_S6x1024x512_S1x1024x512_5_0_0) shapeCasts_S1x1024x512_S1024x512

/-- The residual before layer `q`. -/
def res (x : FVec F S8x512x1024 .f32) (b : FVec F S6x1024x512 .f32) : ℕ → FVec F S8x512x1024 .f32
  | 0 => x
  | q + 1 => subf (res x b q) (layOut (res x b q) (book b q))

/-- The sum of the first `n` terms, from `z`, taken from the left. -/
def total {s : Shape} (z : FVec F s .f32) (f : ℕ → FVec F s .f32) : ℕ → FVec F s .f32
  | 0 => z
  | n + 1 => addf (total z f n) (f n)

/-- The first result. -/
def outR (x : FVec F S8x512x1024 .f32) (b : FVec F S6x1024x512 .f32) : FVec F S8x512x1024 .f32 :=
  total (broadcastInDim S8x512x1024 ![] bcast_S_S8x512x1024 (constant S_ .f32 0x00000000#32))
    (fun q => layOut (res x b q) (book b q)) 6

/-- One layer's indices with an axis of one layer. -/
def idxR1 (x : FVec F S8x512x1024 .f32) (b : FVec F S6x1024x512 .f32) (q : ℕ) : IVec S8x1024x1 32 :=
  broadcastInDim S8x1024x1 ![0, 1] bcast_S8x1024_S8x1024x1_0_1 (layIdx2 (res x b q) (book b q))

/-- The second result. -/
def idxR (x : FVec F S8x512x1024 .f32) (b : FVec F S6x1024x512 .f32) : IVec S8x1024x6 32 :=
  concatenate S8x1024x6 2 [⟨S8x1024x1, idxR1 x b 0⟩, ⟨S8x1024x1, idxR1 x b 1⟩, ⟨S8x1024x1, idxR1 x b 2⟩,
    ⟨S8x1024x1, idxR1 x b 3⟩, ⟨S8x1024x1, idxR1 x b 4⟩, ⟨S8x1024x1, idxR1 x b 5⟩] concatenates_S8x1024x1_S8x1024x1_S8x1024x1_S8x1024x1_S8x1024x1_S8x1024x1_S8x1024x6_d2

/-- The third result. -/
def lossR (x : FVec F S8x512x1024 .f32) (b : FVec F S6x1024x512 .f32) : FVec F S_ .f32 :=
  Host.divf (total (constant S_ .f32 0x00000000#32) (fun q => layLoss (res x b q) (book b q)) 6) (constant S_ .f32 0x40C00000#32)

/-- The fourth result. -/
def perpR (x : FVec F S8x512x1024 .f32) (b : FVec F S6x1024x512 .f32) : FVec F S_ .f32 :=
  Host.divf (total (constant S_ .f32 0x00000000#32) (fun q => layPerp (res x b q) (book b q)) 6) (constant S_ .f32 0x40C00000#32)

end Cert.ReferenceIdeal.Hand
end
-- ==== Proof.RefReads.lean ====
module

public import proofs.«01_k».proof.Proof.RefBase

@[expose] public section

set_option maxRecDepth 16384

noncomputable section

namespace Cert.ReferenceIdeal.Hand

open Idealize.ShloMosaic Idealize.SL.Sem Idealize.ShloMosaic.StableHlo Facts₀ Facts

attribute [local instance] Cert.ReferenceIdeal.Gen.facts Cert.Pre_finite_and_no_tie.Gen.facts

variable {F : FTy → Type} [FloatOps F]

/-- The first result of the reference is `outR` of its arguments. -/
theorem read_outR (V : Valuation τ sig (Elt F)) :
    after (mainOps (F := F)).1 V (Proc.devRef .tc main_v30) = outR (V (Proc.devRef .tc main_arg0)) (V (Proc.devRef .tc main_arg1)) := by
  unfold mainOps
  simp only [after_two, after_cons, after_nil]
  repeat (after_results_simp; try simp (discharger := decide) only [keep, keep', call0 _, call1 _, call2 _, call3 _, call4 _, call5 _])
  rfl

/-- Equal parts put together are equal. -/
theorem cat_congr {a b c d e f a' b' c' d' e' f' : IVec S8x1024x1 32} (ha : a = a') (hb : b = b') (hc : c = c') (hd : d = d')
    (he : e = e') (hf : f = f') :
    concatenate S8x1024x6 2 [⟨S8x1024x1, a⟩, ⟨S8x1024x1, b⟩, ⟨S8x1024x1, c⟩, ⟨S8x1024x1, d⟩, ⟨S8x1024x1, e⟩, ⟨S8x1024x1, f⟩] concatenates_S8x1024x1_S8x1024x1_S8x1024x1_S8x1024x1_S8x1024x1_S8x1024x1_S8x1024x6_d2
      = concatenate S8x1024x6 2 [⟨S8x1024x1, a'⟩, ⟨S8x1024x1, b'⟩, ⟨S8x1024x1, c'⟩, ⟨S8x1024x1, d'⟩, ⟨S8x1024x1, e'⟩, ⟨S8x1024x1, f'⟩] concatenates_S8x1024x1_S8x1024x1_S8x1024x1_S8x1024x1_S8x1024x1_S8x1024x1_S8x1024x6_d2 := by
  subst ha hb hc hd he hf; rfl

/-- The second result of the reference is `idxR` of its arguments. -/
theorem read_idxR (V : Valuation τ sig (Elt F)) :
    after (mainOps (F := F)).1 V (Proc.devRef .tc main_v37) = idxR (V (Proc.devRef .tc main_arg0)) (V (Proc.devRef .tc main_arg1)) := by
  unfold mainOps
  simp only [after_two, after_cons, after_nil]
  after_results_simp
  refine cat_congr ?_ ?_ ?_ ?_ ?_ ?_ <;>
  · dsimp only [Matrix.cons_val]
    repeat (after_results_simp; try simp (discharger := decide) only [keep, keep', call0 _, call1 _, call2 _, call3 _, call4 _, call5 _])
    unfold idxR1; rfl

/-- The third result of the reference is `lossR` of its arguments. -/
theorem read_lossR (V : Valuation τ sig (Elt F)) :
    after (mainOps (F := F)).1 V (Proc.devRef .tc main_v44) = lossR (V (Proc.devRef .tc main_arg0)) (V (Proc.devRef .tc main_arg1)) := by
  unfold mainOps
  simp only [after_two, after_cons, after_nil]
  repeat (after_results_simp; try simp (discharger := decide) only [keep, keep', call0 _, call1 _, call2 _, call3 _, call4 _, call5 _])
  rfl

/-- The fourth result of the reference is `perpR` of its arguments. -/
theorem read_perpR (V : Valuation τ sig (Elt F)) :
    after (mainOps (F := F)).1 V (Proc.devRef .tc main_v51) = perpR (V (Proc.devRef .tc main_arg0)) (V (Proc.devRef .tc main_arg1)) := by
  unfold mainOps
  simp only [after_two, after_cons, after_nil]
  repeat (after_results_simp; try simp (discharger := decide) only [keep, keep', call0 _, call1 _, call2 _, call3 _, call4 _, call5 _])
  rfl

/-- The reference leaves `main_arg0` alone. -/
theorem read_main_arg0 (V : Valuation τ sig (Elt F)) :
    after (mainOps (F := F)).1 V (Proc.devRef .tc main_arg0) = V (Proc.devRef .tc main_arg0) := by
  unfold mainOps
  simp only [after_two, after_cons, after_nil]
  repeat (after_results_simp; try simp (discharger := decide) only [keep, keep'])

/-- The reference leaves `main_arg1` alone. -/
theorem read_main_arg1 (V : Valuation τ sig (Elt F)) :
    after (mainOps (F := F)).1 V (Proc.devRef .tc main_arg1) = V (Proc.devRef .tc main_arg1) := by
  unfold mainOps
  simp only [after_two, after_cons, after_nil]
  repeat (after_results_simp; try simp (discharger := decide) only [keep, keep'])

/-- The reference's run, read at its results and its arguments. -/
theorem run_reads (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_v30) = outR (m ((c.tc : Thread nD τ).loc main_arg0)) (m ((c.tc : Thread nD τ).loc main_arg1))
        ∧ r.2.mem ((c.tc : Thread nD τ).loc main_v37) = idxR (m ((c.tc : Thread nD τ).loc main_arg0)) (m ((c.tc : Thread nD τ).loc main_arg1))
        ∧ r.2.mem ((c.tc : Thread nD τ).loc main_v44) = lossR (m ((c.tc : Thread nD τ).loc main_arg0)) (m ((c.tc : Thread nD τ).loc main_arg1))
        ∧ r.2.mem ((c.tc : Thread nD τ).loc main_v51) = perpR (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m g) fun r h => ⟨fun c =>
    ⟨(h.1 c main_v30).trans (read_outR _), (h.1 c main_v37).trans (read_idxR _), (h.1 c main_v44).trans (read_lossR _),
      (h.1 c main_v51).trans (read_perpR _), (h.1 c main_arg0).trans (read_main_arg0 _), (h.1 c main_arg1).trans (read_main_arg1 _)⟩, h.2⟩

end Cert.ReferenceIdeal.Hand
end
-- ==== Proof.Layer.lean ====
/- One layer of the quantiser as the kernel computes it on a tile of 512 tokens, and the equations that read each of the
   kernel's six layers, which its text spells out one by one, as this one. -/
module

public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The lanes' numbers. -/
def lanes : IVec S512x1024 32 := iota .tc S512x1024 32 [1] iota_S512x1024_d1_w32
theorem lanes_of (l : List (Fin S512x1024.rank)) (h) (hl : l = [1]) : iota .tc S512x1024 32 l h = lanes := by subst hl; rfl

/-- The tokens' squared norms. -/
def sqn (r : FVec F S512x512 .f32) : FVec F S512x1 .f32 := k0_pay76 r
/-- Twice the products of tokens and codewords. -/
def two (r : FVec F S512x512 .f32) (b : Vec F S1x1024x512 .f32) : FVec F S512x1024 .f32 :=
  mulf (broadcast S512x1024 (Scalar.ofBits .f32 0x40000000#32)) (matmul dot_S512x512_S1024x512_S512x1024_1_1_0_0_n_n none r
    (shapeCast S1024x512 b shapeCasts_S1x1024x512_S1024x512) (constant S512x1024 .f32 0x00000000#32))
/-- Each token's nearest codeword, of residuals `r` and codebook `b`. -/
def idx (r : FVec F S512x512 .f32) (b : Vec F S1x1024x512 .f32) : IVec S512 32 := k0_pay62 r b (k0_pay8 b)
/-- The same as a one-hot row for each token. -/
def hot (r : FVec F S512x512 .f32) (b : Vec F S1x1024x512 .f32) : FVec F S512x1024 .bf16 := k0_pay63 r b (k0_pay8 b)
/-- The chosen codewords' high parts; the same with the middle parts added. -/
def pick1 (r : FVec F S512x512 .f32) (b : Vec F S1x1024x512 .f32) : FVec F S512x512 .f32 := k0_pay80 lanes r b (k0_pay8 b) (k0_pay12 b)
def pick2 (r : FVec F S512x512 .f32) (b : Vec F S1x1024x512 .f32) : FVec F S512x512 .f32 := k0_pay64 r b (k0_pay8 b) (k0_pay12 b) (k0_pay13 b)
/-- The residuals that the layer leaves. -/
def next (r : FVec F S512x512 .f32) (b : Vec F S1x1024x512 .f32) : FVec F S512x512 .f32 := k0_pay65 r (hot r b) (pick2 r b) (k0_pay14 b)
/-- The row of code indices. -/
def idxRow (r : FVec F S512x512 .f32) (b : Vec F S1x1024x512 .f32) : IVec S1x512 32 := k0_pay66 (idx r b)
/-- The row of the codes' counts, added to the row `w` counted so far. -/
def cnt (r : FVec F S512x512 .f32) (b : Vec F S1x1024x512 .f32) (w : Vec F S1x1024 .f32) : FVec F S1x1024 .f32 := k0_pay67 k0_pay61 (hot r b) w
/-- The sum of squares of the residuals `r`, in every lane, added to the row `w` summed so far. -/
def sse (r : FVec F S512x512 .f32) (w : Vec F S1x128 .f32) : FVec F S1x128 .f32 := k0_pay77 r w

theorem pay60 (r : Vec F S512x512 .f32) : k0_pay60 r = r := shapeCast_self _ _

variable (r : FVec F S512x512 .f32) (b : Vec F S1x1024x512 .f32) (w : Vec F S1x1024 .f32) (s : Vec F S1x128 .f32)

/-! The layers as the kernel spells them: each its own payloads, each equal to the layer above. -/

theorem f62 : k0_pay62 r b (k0_pay8 b) = idx r b := rfl
theorem f63 : k0_pay63 r b (k0_pay8 b) = hot r b := rfl
theorem f64 : k0_pay64 r b (k0_pay8 b) (k0_pay12 b) (k0_pay13 b) = pick2 r b := rfl
theorem f65 : k0_pay65 r (hot r b) (pick2 r b) (k0_pay14 b) = next r b := rfl
theorem f66 : k0_pay66 (idx r b) = idxRow r b := rfl
theorem f67 : k0_pay67 k0_pay61 (hot r b) w = cnt r b w := rfl
theorem f68 : k0_pay68 r (hot r b) (pick2 r b) (k0_pay14 b) = sqn (next r b) := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f69 : k0_pay69 r (hot r b) (pick2 r b) (k0_pay14 b) s = sse (next r b) s := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f70 (b2 : Vec F S1x1024x512 .f32) : k0_pay70 r (hot r b) (pick2 r b) (k0_pay14 b) b2 = two (next r b) b2 := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f73 : k0_pay73 lanes r (sqn r) (two r b) (k0_pay8 b) (k0_pay12 b) (k0_pay13 b) (k0_pay14 b) = next r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f74 : k0_pay74 (sqn r) (two r b) (k0_pay8 b) = idxRow r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f75 : k0_pay75 lanes k0_pay61 (sqn r) (two r b) (k0_pay8 b) w = cnt r b w := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f77 : k0_pay77 r s = sse r s := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f78 : k0_pay78 r b (k0_pay8 b) = idx r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f79 : k0_pay79 lanes r b (k0_pay8 b) = hot r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f80 : k0_pay80 lanes r b (k0_pay8 b) (k0_pay12 b) = pick1 r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f82 : k0_pay82 r (hot r b) (pick1 r b) (k0_pay81 (k0_pay13 b)) (k0_pay14 b) = next r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f83 : k0_pay83 (idx r b) = idxRow r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f84 : k0_pay84 k0_pay61 (hot r b) w = cnt r b w := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f86 : k0_pay86 r (hot r b) (pick1 r b) (k0_pay81 (k0_pay13 b)) (k0_pay14 b) = sqn (next r b) := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f87 : k0_pay87 r (hot r b) (pick1 r b) (k0_pay81 (k0_pay13 b)) (k0_pay14 b) s = sse (next r b) s := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f90 : k0_pay90 lanes r (k0_pay85 b) (sqn r) (constant S512x1024 .f32 0x00000000#32) (k0_pay8 b) (k0_pay12 b) (k0_pay13 b) (k0_pay14 b) = next r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f91 : k0_pay91 r (k0_pay85 b) (sqn r) (constant S512x1024 .f32 0x00000000#32) (k0_pay8 b) = idxRow r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f93 : k0_pay93 (k0_pay92 lanes k0_pay61 r (k0_pay85 b) (sqn r) (constant S512x1024 .f32 0x00000000#32) (k0_pay8 b) w) = cnt r b w := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f95 : k0_pay95 r s = sse r s := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f96 : k0_pay96 r b (k0_pay8 b) = idx r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f97 : k0_pay97 lanes r b (k0_pay8 b) = hot r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f98 : k0_pay98 lanes r b (k0_pay8 b) (k0_pay12 b) = pick1 r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f99 : k0_pay99 r (hot r b) (pick1 r b) (k0_pay13 b) (k0_pay14 b) = next r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f100 : k0_pay100 (idx r b) = idxRow r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f101 : k0_pay101 k0_pay61 (hot r b) w = cnt r b w := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f103 : k0_pay103 r (hot r b) (pick1 r b) (k0_pay13 b) (k0_pay14 b) = sqn (next r b) := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f105 : k0_pay105 (k0_pay104 r (hot r b) (pick1 r b) (k0_pay13 b) (k0_pay14 b) s) = sse (next r b) s := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f108 : k0_pay108 lanes r (k0_pay102 b) (sqn r) (k0_pay8 b) (k0_pay12 b) (k0_pay13 b) (k0_pay14 b) = next r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f109 : k0_pay109 r (k0_pay102 b) (sqn r) (k0_pay8 b) = idxRow r b := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f1 : k0_pay1 (k0_pay110 lanes k0_pay61 r (k0_pay102 b) (sqn r) (k0_pay8 b)) (k0_pay111 w) = cnt r b w := by
  simp only [lanes, sqn, two, idx, hot, pick1, pick2, next, idxRow, cnt, sse, shapeCast_self, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay1, k0_pay2]
theorem f16 : k0_pay16 b = k0_pay8 b := rfl
theorem f24 : k0_pay24 b = k0_pay8 b := rfl
theorem f33 : k0_pay33 b = k0_pay8 b := rfl
theorem f42 : k0_pay42 (k0_pay41 b) = k0_pay8 b := rfl
theorem f50 : k0_pay50 b = k0_pay8 b := rfl
theorem f20 : k0_pay20 (k0_pay17 b) = k0_pay12 b := rfl
theorem f28 : k0_pay28 b = k0_pay12 b := rfl
theorem f37 : k0_pay37 b = k0_pay12 b := rfl
theorem f46 : k0_pay46 (k0_pay40 b) = k0_pay12 b := rfl
theorem f55 : k0_pay55 b = k0_pay12 b := rfl
theorem f21 : k0_pay21 (k0_pay19 b) = k0_pay13 b := rfl
theorem f29 : k0_pay29 b = k0_pay13 b := rfl
theorem f38 : k0_pay38 b = k0_pay13 b := rfl
theorem f47 : k0_pay47 (k0_pay40 b) = k0_pay13 b := rfl
theorem f56 : k0_pay56 (k0_pay53 b) = k0_pay13 b := rfl
theorem f22 : k0_pay22 (k0_pay18 b) (k0_pay19 b) = k0_pay14 b := rfl
theorem f31 : k0_pay31 (k0_pay30 b) = k0_pay14 b := rfl
theorem f39 : k0_pay39 b = k0_pay14 b := rfl
theorem f48 : k0_pay48 (k0_pay40 b) = k0_pay14 b := rfl
theorem f57 : k0_pay57 (k0_pay54 b) = k0_pay14 b := rfl

end Cert.KernelIdeal.Hand

end
-- ==== Proof.BodyValues.lean ====
/- What the kernel's body leaves at a grid point: the residuals and code indices of its tile, and the rows of counts and
   summed squares with the tile's added. -/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.ReadBack
public import Idealize.ShloMosaic.Lib.Pipeline.ValueKit.Tiles
public import Idealize.ShloMosaic.Lib.WritesUnit
public import Idealize.ShloMosaic.Lib.ValueLayout
public import Idealize.ShloMosaic.Lib.Tactic
public import proofs.«01_k».proof.Proof.Layer

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

/-- The test of the body's opening branch at grid point `i`: the point is the first. -/
abbrev atFirst (i : grid0.Coords) : Prop := Scalar.cmpi .ne (Scalar.extui (Scalar.cmpi .eq (BitVec.ofNat 32 (i 0).val) 0#32)) 0#32 = 1#1

/-! ## Rows and books of an array, and the array that six stored rows make -/

/-- Row `q` of an array, as a one-row array. -/
def rowOf {D n : ℕ} [NeZero D] {F : FTy → Type} {e : EltTy} (d : Vec F (⟨2, ![D, n]⟩ : Shape) e) (q : ℕ) : Vec F (⟨2, ![1, n]⟩ : Shape) e :=
  fun z => d (ix2 (Fin.ofNat D q) (z 1))
/-- Book `q` of an array of books, as an array of one book. -/
def bookOf {D n k : ℕ} [NeZero D] {F : FTy → Type} {e : EltTy} (d : Vec F (⟨3, ![D, n, k]⟩ : Shape) e) (q : ℕ) : Vec F (⟨3, ![1, n, k]⟩ : Shape) e :=
  fun z => d (ix3 (Fin.ofNat D q) (z 1) (z 2))

section
variable {sg : RefSig} {κ : Kind} {sp : Space} {e : EltTy} {D n k : ℕ} [NeZero D]

/-- A load of row `q` of a whole buffer that holds `d` reads row `q` of `d`. -/
theorem read_row (a : Memref sg κ sp (⟨2, ![D, n]⟩ : Shape) e) (h : a.IsWhole) (d : Vec F (⟨2, ![D, n]⟩ : Shape) e) (q : ℕ) (inb) :
    View.readAt (Elt F) a.view (Rect.unit (s := ⟨2, ![D, n]⟩) ![q, 0] ![1, n] inb).toLoadRect (h.unread d) = rowOf d q := by
  rw [View.readAt_eq_ld, h.read_unread]
  funext z
  refine View.ld_unit_apply_of _ _ _ _ _ _ fun a => ?_
  have hq : q + 1 ≤ D := inb 0
  have hz : (z 0).val < 1 := (z 0).isLt
  match a with
  | ⟨0, _⟩ =>
    show (Fin.ofNat D q).val = q + (z 0).val
    rw [Fin.val_ofNat, Nat.mod_eq_of_lt (by omega)]; omega
  | ⟨1, _⟩ => exact (Nat.zero_add _).symm

/-- A load of the whole of a whole buffer reads what it holds. -/
theorem readWhole (a : Memref sg κ sp (⟨2, ![D, n]⟩ : Shape) e) (h : a.IsWhole) (d : Vec F (⟨2, ![D, n]⟩ : Shape) e) (inb) :
    View.readAt (Elt F) a.view (Rect.unit (s := ⟨2, ![D, n]⟩) ![0, 0] ![D, n] inb).toLoadRect (h.unread d) = d := by
  rw [View.readAt_eq_ld, h.read_unread]
  exact View.ld_unit_zero (S := ⟨2, ![D, n]⟩) (off := ![0, 0]) (funext fun a => match a with | ⟨0, _⟩ => rfl | ⟨1, _⟩ => rfl) _ _

/-- A load of the whole of a buffer reads what it holds; of a row, after a store of the whole, that row of what was stored. -/
theorem readAt_whole (v : View sg κ sp (⟨2, ![D, n]⟩ : Shape) e) (f : v.ty.Contents (Elt F)) (inb) :
    View.readAt (Elt F) v (Rect.unit (s := ⟨2, ![D, n]⟩) ![0, 0] ![D, n] inb).toLoadRect f = v.read (Elt F) f := by
  rw [View.readAt_eq_ld]
  exact View.ld_unit_zero (S := ⟨2, ![D, n]⟩) (off := ![0, 0]) (funext fun a => match a with | ⟨0, _⟩ => rfl | ⟨1, _⟩ => rfl) _ _
theorem readFilled (v : View sg κ sp (⟨2, ![D, n]⟩ : Shape) e) (Z : Vec F (⟨2, ![D, n]⟩ : Shape) e) (L : List (View.Piece (Elt F) (⟨2, ![D, n]⟩ : Shape) e)) (q : ℕ) (inb) (inb') :
    v.readCov (⟨Rect.unit (s := ⟨2, ![D, n]⟩) ![0, 0] ![D, n] inb, Z⟩ :: L) (Rect.unit (s := ⟨2, ![D, n]⟩) ![q, 0] ![1, n] inb').toLoadRect = rowOf Z q := by
  rw [View.readCov_eq_canon', View.canon_cons_unit_zero (S := ⟨2, ![D, n]⟩) (off := ![0, 0]) (funext fun a => match a with | ⟨0, _⟩ => rfl | ⟨1, _⟩ => rfl)]
  funext z
  refine View.ld_unit_apply_of _ _ _ _ _ _ fun a => ?_
  have hq : q + 1 ≤ D := inb' 0
  have hz : (z 0).val < 1 := (z 0).isLt
  match a with
  | ⟨0, _⟩ =>
    show (Fin.ofNat D q).val = q + (z 0).val
    rw [Fin.val_ofNat, Nat.mod_eq_of_lt (by omega)]; omega
  | ⟨1, _⟩ => exact (Nat.zero_add _).symm
/-- What is read after a store of the whole is what was stored. -/
theorem read_stored (v : View sg κ sp (⟨2, ![D, n]⟩ : Shape) e) (f : v.ty.Contents (Elt F)) (Z : Vec F (⟨2, ![D, n]⟩ : Shape) e) (L : List (View.Piece (Elt F) (⟨2, ![D, n]⟩ : Shape) e)) (inb) :
    v.read (Elt F) (v.writes (Elt F) f (⟨Rect.unit (s := ⟨2, ![D, n]⟩) ![0, 0] ![D, n] inb, Z⟩ :: L)) = Z := funext fun y =>
  View.read_writes_cons_unit_of_mem v f inb Z L y y rfl fun a => match a with
    | ⟨0, _⟩ => (Nat.zero_add _).symm
    | ⟨1, _⟩ => (Nat.zero_add _).symm

/-- A load of book `q` likewise. -/
theorem read_book (a : Memref sg κ sp (⟨3, ![D, n, k]⟩ : Shape) e) (h : a.IsWhole) (d : Vec F (⟨3, ![D, n, k]⟩ : Shape) e) (q : ℕ) (inb) :
    View.readAt (Elt F) a.view (Rect.unit (s := ⟨3, ![D, n, k]⟩) ![q, 0, 0] ![1, n, k] inb).toLoadRect (h.unread d) = bookOf d q := by
  rw [View.readAt_eq_ld, h.read_unread]
  funext z
  refine View.ld_unit_apply_of _ _ _ _ _ _ fun a => ?_
  have hq : q + 1 ≤ D := inb 0
  have hz : (z 0).val < 1 := (z 0).isLt
  match a with
  | ⟨0, _⟩ =>
    show (Fin.ofNat D q).val = q + (z 0).val
    rw [Fin.val_ofNat, Nat.mod_eq_of_lt (by omega)]; omega
  | ⟨1, _⟩ => exact (Nat.zero_add _).symm
  | ⟨2, _⟩ => exact (Nat.zero_add _).symm

/-- Six rows stored one after another, read back: each row where it was stored, elsewhere what was there. -/
theorem read_rows (v : View sg κ sp (⟨2, ![D, n]⟩ : Shape) e) (f : v.ty.Contents (Elt F)) (w : ℕ → Vec F (⟨2, ![1, n]⟩ : Shape) e)
    (L : List (View.Piece (Elt F) (⟨2, ![D, n]⟩ : Shape) e)) (i5 i4 i3 i2 i1 i0) (y : (⟨2, ![D, n]⟩ : Shape).Idx) :
    v.read (Elt F) (v.writes (Elt F) f (⟨Rect.unit (s := ⟨2, ![D, n]⟩) ![5, 0] ![1, n] i5, w 5⟩ :: ⟨Rect.unit (s := ⟨2, ![D, n]⟩) ![4, 0] ![1, n] i4, w 4⟩ ::
      ⟨Rect.unit (s := ⟨2, ![D, n]⟩) ![3, 0] ![1, n] i3, w 3⟩ :: ⟨Rect.unit (s := ⟨2, ![D, n]⟩) ![2, 0] ![1, n] i2, w 2⟩ ::
      ⟨Rect.unit (s := ⟨2, ![D, n]⟩) ![1, 0] ![1, n] i1, w 1⟩ :: ⟨Rect.unit (s := ⟨2, ![D, n]⟩) ![0, 0] ![1, n] i0, w 0⟩ :: L)) y
      = if (y 0).val < 6 then w (y 0).val (ix2 0 (y 1)) else v.read (Elt F) (v.writes (Elt F) f L) y := by
  have hit : ∀ (q : ℕ) (inb) (L), (y 0).val = q →
      v.read (Elt F) (v.writes (Elt F) f ((⟨Rect.unit (s := ⟨2, ![D, n]⟩) ![q, 0] ![1, n] inb, w q⟩ : View.Piece (Elt F) (⟨2, ![D, n]⟩ : Shape) e) :: L)) y
        = w (y 0).val (ix2 0 (y 1)) := fun q inb L h => by
    subst h
    refine View.read_writes_cons_unit_of_mem v f inb _ L y (ix2 0 (y 1)) rfl fun a => ?_
    match a with
    | ⟨0, _⟩ => exact (Nat.add_zero _).symm
    | ⟨1, _⟩ => exact (Nat.zero_add _).symm
  have miss : ∀ (q : ℕ) (inb) (L), (y 0).val ≠ q →
      v.read (Elt F) (v.writes (Elt F) f ((⟨Rect.unit (s := ⟨2, ![D, n]⟩) ![q, 0] ![1, n] inb, w q⟩ : View.Piece (Elt F) (⟨2, ![D, n]⟩ : Shape) e) :: L)) y
        = v.read (Elt F) (v.writes (Elt F) f L) y := fun q inb L h =>
    View.read_writes_cons_unit_of_not_mem v f inb _ L y rfl 0 (by
      show (y 0).val < q ∨ q + 1 ≤ (y 0).val
      omega)
  split
  next hy =>
    by_cases h5 : (y 0).val = 5
    · exact hit 5 _ _ h5
    rw [miss 5 _ _ h5]
    by_cases h4 : (y 0).val = 4
    · exact hit 4 _ _ h4
    rw [miss 4 _ _ h4]
    by_cases h3 : (y 0).val = 3
    · exact hit 3 _ _ h3
    rw [miss 3 _ _ h3]
    by_cases h2 : (y 0).val = 2
    · exact hit 2 _ _ h2
    rw [miss 2 _ _ h2]
    by_cases h1 : (y 0).val = 1
    · exact hit 1 _ _ h1
    rw [miss 1 _ _ h1]
    exact hit 0 _ _ (by omega)
  next hy =>
    rw [miss 5 _ _ (by omega), miss 4 _ _ (by omega), miss 3 _ _ (by omega), miss 2 _ _ (by omega), miss 1 _ _ (by omega), miss 0 _ _ (by omega)]

/-- Six books stored one after another, likewise. -/
theorem read_books (v : View sg κ sp (⟨3, ![D, n, k]⟩ : Shape) e) (f : v.ty.Contents (Elt F)) (w : ℕ → Vec F (⟨3, ![1, n, k]⟩ : Shape) e)
    (i5 i4 i3 i2 i1 i0) (y : (⟨3, ![D, n, k]⟩ : Shape).Idx) (hy : (y 0).val < 6) :
    v.read (Elt F) (v.writes (Elt F) f [⟨Rect.unit (s := ⟨3, ![D, n, k]⟩) ![5, 0, 0] ![1, n, k] i5, w 5⟩, ⟨Rect.unit (s := ⟨3, ![D, n, k]⟩) ![4, 0, 0] ![1, n, k] i4, w 4⟩,
      ⟨Rect.unit (s := ⟨3, ![D, n, k]⟩) ![3, 0, 0] ![1, n, k] i3, w 3⟩, ⟨Rect.unit (s := ⟨3, ![D, n, k]⟩) ![2, 0, 0] ![1, n, k] i2, w 2⟩,
      ⟨Rect.unit (s := ⟨3, ![D, n, k]⟩) ![1, 0, 0] ![1, n, k] i1, w 1⟩, ⟨Rect.unit (s := ⟨3, ![D, n, k]⟩) ![0, 0, 0] ![1, n, k] i0, w 0⟩]) y
      = w (y 0).val (ix3 0 (y 1) (y 2)) := by
  have hit : ∀ (q : ℕ) (inb) (L), (y 0).val = q →
      v.read (Elt F) (v.writes (Elt F) f ((⟨Rect.unit (s := ⟨3, ![D, n, k]⟩) ![q, 0, 0] ![1, n, k] inb, w q⟩ : View.Piece (Elt F) (⟨3, ![D, n, k]⟩ : Shape) e) :: L)) y
        = w (y 0).val (ix3 0 (y 1) (y 2)) := fun q inb L h => by
    subst h
    refine View.read_writes_cons_unit_of_mem v f inb _ L y (ix3 0 (y 1) (y 2)) rfl fun a => ?_
    match a with
    | ⟨0, _⟩ => exact (Nat.add_zero _).symm
    | ⟨1, _⟩ => exact (Nat.zero_add _).symm
    | ⟨2, _⟩ => exact (Nat.zero_add _).symm
  have miss : ∀ (q : ℕ) (inb) (L), (y 0).val ≠ q →
      v.read (Elt F) (v.writes (Elt F) f ((⟨Rect.unit (s := ⟨3, ![D, n, k]⟩) ![q, 0, 0] ![1, n, k] inb, w q⟩ : View.Piece (Elt F) (⟨3, ![D, n, k]⟩ : Shape) e) :: L)) y
        = v.read (Elt F) (v.writes (Elt F) f L) y := fun q inb L h =>
    View.read_writes_cons_unit_of_not_mem v f inb _ L y rfl 0 (by
      show (y 0).val < q ∨ q + 1 ≤ (y 0).val
      omega)
  by_cases h5 : (y 0).val = 5
  · exact hit 5 _ _ h5
  rw [miss 5 _ _ h5]
  by_cases h4 : (y 0).val = 4
  · exact hit 4 _ _ h4
  rw [miss 4 _ _ h4]
  by_cases h3 : (y 0).val = 3
  · exact hit 3 _ _ h3
  rw [miss 3 _ _ h3]
  by_cases h2 : (y 0).val = 2
  · exact hit 2 _ _ h2
  rw [miss 2 _ _ h2]
  by_cases h1 : (y 0).val = 1
  · exact hit 1 _ _ h1
  rw [miss 1 _ _ h1]
  exact hit 0 _ _ (by omega)

theorem rowOf_eq (d : Vec F (⟨2, ![D, n]⟩ : Shape) e) (w : Vec F (⟨2, ![1, n]⟩ : Shape) e) (q : ℕ) (hq : q < D)
    (h : ∀ j : Fin n, d (ix2 ⟨q, hq⟩ j) = w (ix2 0 j)) : rowOf d q = w := funext fun z => by
  have e0 : (Fin.ofNat D q) = ⟨q, hq⟩ := Fin.ext (by rw [Fin.val_ofNat, Nat.mod_eq_of_lt hq])
  have e1 : z = ix2 0 (z 1) := funext fun a => match a with
    | ⟨0, _⟩ => Subsingleton.elim (α := Fin 1) _ _
    | ⟨1, _⟩ => rfl
  show d (ix2 (Fin.ofNat D q) (z 1)) = w z
  rw [e0]; exact (h (z 1)).trans (congrArg w e1.symm)

theorem bookOf_eq (d : Vec F (⟨3, ![D, n, k]⟩ : Shape) e) (w : Vec F (⟨3, ![1, n, k]⟩ : Shape) e) (q : ℕ) (hq : q < D)
    (h : ∀ (j : Fin n) (l : Fin k), d (ix3 ⟨q, hq⟩ j l) = w (ix3 0 j l)) : bookOf d q = w := funext fun z => by
  have e0 : (Fin.ofNat D q) = ⟨q, hq⟩ := Fin.ext (by rw [Fin.val_ofNat, Nat.mod_eq_of_lt hq])
  have e1 : z = ix3 0 (z 1) (z 2) := funext fun a => match a with
    | ⟨0, _⟩ => Subsingleton.elim (α := Fin 1) _ _
    | ⟨1, _⟩ => rfl
    | ⟨2, _⟩ => rfl
  show d (ix3 (Fin.ofNat D q) (z 1) (z 2)) = w z
  rw [e0]; exact (h (z 1) (z 2)).trans (congrArg w e1.symm)
end

/-! ## What a point computes, of its tile `x` and the codebooks `B` -/

/-- The residuals before layer `q`. -/
def resid (x : FVec F S512x512 .f32) (B : Vec F S6x1024x512 .f32) : ℕ → FVec F S512x512 .f32
  | 0 => x
  | q + 1 => next (resid x B q) (bookOf B q)

/-- The tile's quantised vectors: what was taken off its residuals. -/
def tileOut (x : FVec F S512x512 .f32) (B : Vec F S6x1024x512 .f32) : FVec F S512x512 .f32 := k0_pay3 x (resid x B 6)
/-- The tile's code indices, a row for each layer. -/
def tileIdx (x : FVec F S512x512 .f32) (B : Vec F S6x1024x512 .f32) : IVec S6x512 32 := fun y =>
  idxRow (resid x B (y 0).val) (bookOf B (y 0).val) (ix2 0 (y 1))
/-- The row of layer `q`'s counts, of the row `w` before; the row of its summed squares likewise. -/
def cntRow (x : FVec F S512x512 .f32) (B : Vec F S6x1024x512 .f32) (q : ℕ) (w : Vec F S1x1024 .f32) : FVec F S1x1024 .f32 :=
  cnt (resid x B q) (bookOf B q) w
def sseRow (x : FVec F S512x512 .f32) (B : Vec F S6x1024x512 .f32) (q : ℕ) (w : Vec F S1x128 .f32) : FVec F S1x128 .f32 :=
  if q = 5 then k0_pay2 (resid x B 6) w else sse (resid x B (q + 1)) w
/-- The counts with the tile's added to what `d` holds. -/
def counted (x : FVec F S512x512 .f32) (B : Vec F S6x1024x512 .f32) (d : Vec F S8x1024 .f32) : Vec F S8x1024 .f32 := fun y =>
  if (y 0).val < 6 then cntRow x B (y 0).val (rowOf d (y 0).val) (ix2 0 (y 1)) else d y
/-- The summed squares with the tile's added to what `d` holds. -/
def summed (x : FVec F S512x512 .f32) (B : Vec F S6x1024x512 .f32) (d : Vec F S8x128 .f32) : Vec F S8x128 .f32 := fun y =>
  if (y 0).val < 6 then sseRow x B (y 0).val (rowOf d (y 0).val) (ix2 0 (y 1)) else d y

/-- The scratch that the first point fills, once filled: the squared norms and the three parts of each codebook. -/
structure Filled (B : Vec F S6x1024x512 .f32) (d7 : Vec F S8x1024 .f32) (d10 d11 d12 : Vec F S6x1024x512 .bf16) : Prop where
  nrm : ∀ q < 6, rowOf d7 q = k0_pay8 (bookOf B q)
  hi : ∀ q < 6, bookOf d10 q = k0_pay12 (bookOf B q)
  mid : ∀ q < 6, bookOf d11 q = k0_pay13 (bookOf B q)
  lo : ∀ q < 6, bookOf d12 q = k0_pay14 (bookOf B q)

section
variable (x : FVec F S512x512 .f32) (B : Vec F S6x1024x512 .f32)
theorem resid1 : next x (bookOf B 0) = resid x B 1 := rfl
theorem resid2 : next (resid x B 1) (bookOf B 1) = resid x B 2 := rfl
theorem resid3 : next (resid x B 2) (bookOf B 2) = resid x B 3 := rfl
theorem resid4 : next (resid x B 3) (bookOf B 3) = resid x B 4 := rfl
theorem resid5 : next (resid x B 4) (bookOf B 4) = resid x B 5 := rfl
theorem resid6 : next (resid x B 5) (bookOf B 5) = resid x B 6 := rfl
end

set_option maxHeartbeats 8000000 in
/-- The body at a point between: its tile's residuals, indices, counts and sums, of the scratch as the first point filled it. -/
theorem run_mid (c : Dev nD) (i : grid0.Coords) (a1 : Memref sig .tc .vmem S512x512 .f32) (h1 : a1.IsWhole) (a2 : Memref sig .tc .vmem S6x1024x512 .f32) (h2 : a2.IsWhole) (a3 : Memref sig .tc .vmem S512x512 .f32) (h3 : a3.IsWhole) (a4 : Memref sig .tc .vmem S6x512 .i32) (h4 : a4.IsWhole) (a5 : Memref sig .tc .vmem S1x1 .f32) (h5 : a5.IsWhole) (a6 : Memref sig .tc .vmem S1x1 .f32) (h6 : a6.IsWhole) (a7 : Memref sig .tc .vmem S8x1024 .f32) (h7 : a7.IsWhole) (a8 : Memref sig .tc .vmem S8x1024 .f32) (h8 : a8.IsWhole) (a9 : Memref sig .tc .vmem S8x128 .f32) (h9 : a9.IsWhole) (a10 : Memref sig .tc .vmem S6x1024x512 .bf16) (h10 : a10.IsWhole) (a11 : Memref sig .tc .vmem S6x1024x512 .bf16) (h11 : a11.IsWhole) (a12 : Memref sig .tc .vmem S6x1024x512 .bf16) (h12 : a12.IsWhole) (x1 : Vec F S512x512 .f32) (x2 : Vec F S6x1024x512 .f32)
    (hc0 : ¬ atFirst i) (hc1 : ¬ (k0_cond2 i = 1#1)) (d7 : Vec F S8x1024 .f32) (d8 : Vec F S8x1024 .f32) (d9 : Vec F S8x128 .f32) (d10 d11 d12 : Vec F S6x1024x512 .bf16) (hF : Filled x2 d7 d10 d11 d12) (d5 d6 : Vec F S1x1 .f32) (E : Set ℕ) (Q : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d) ∗ owns (c : Thread nD τ) a5 fullShare d5 ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare d10 ∗ owns (c : Thread nD τ) a11 fullShare d11 ∗ owns (c : Thread nD τ) a12 fullShare d12
      ∗ (iprop(owns (c : Thread nD τ) a1 fullShare x1 ∗ owns (c : Thread nD τ) a2 fullShare x2 ∗ owns (c : Thread nD τ) a3 fullShare (tileOut x1 x2) ∗ owns (c : Thread nD τ) a4 fullShare (tileIdx x1 x2) ∗ owns (c : Thread nD τ) a5 fullShare d5 ∗ owns (c : Thread nD τ) a6 fullShare d6 ∗ owns (c : Thread nD τ) a7 fullShare d7 ∗ owns (c : Thread nD τ) a8 fullShare (counted x1 x2 d8) ∗ owns (c : Thread nD τ) a9 fullShare (summed x1 x2 d9) ∗ owns (c : Thread nD τ) a10 fullShare d10 ∗ owns (c : Thread nD τ) a11 fullShare d11 ∗ owns (c : Thread nD τ) a12 fullShare d12) -∗ Q ⟨⟩))
    ⊢ wp frame (wpE (defs₀ (F := F)) Variants.none c none) E (cc0__rvq_body i a1 h1 a2 h2 a3 h3 a4 h4 a5 h5 a6 h6 a7 h7 a8 h8 a9 h9 a10 h10 a11 h11 a12 h12) Q := by
  have n0 := hF.nrm 0 (by decide); have n1 := hF.nrm 1 (by decide); have n2 := hF.nrm 2 (by decide); have n3 := hF.nrm 3 (by decide); have n4 := hF.nrm 4 (by decide); have n5 := hF.nrm 5 (by decide)
  have p0 := hF.hi 0 (by decide); have p1 := hF.hi 1 (by decide); have p2 := hF.hi 2 (by decide); have p3 := hF.hi 3 (by decide); have p4 := hF.hi 4 (by decide); have p5 := hF.hi 5 (by decide)
  have m0 := hF.mid 0 (by decide); have m1 := hF.mid 1 (by decide); have m2 := hF.mid 2 (by decide); have m3 := hF.mid 3 (by decide); have m4 := hF.mid 4 (by decide); have m5 := hF.mid 5 (by decide)
  have l0 := hF.lo 0 (by decide); have l1 := hF.lo 1 (by decide); have l2 := hF.lo 2 (by decide); have l3 := hF.lo 3 (by decide); have l4 := hF.lo 4 (by decide); have l5 := hF.lo 5 (by decide)
  unfold owns
  iintro ⟨⟨%f1, %hf1, H1⟩, ⟨%f2, %hf2, H2⟩, ⟨%d3, %f3, %hf3, H3⟩, ⟨%d4, %f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0__rvq_body]
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec!
  sl_step
  sl_unfold_words
  simp (disch := decide) only [↓View.readCov_skip, View.readCov_cons_toLoadRect, read_row, read_book, readWhole, readFilled, n0, n1, n2, n3, n4, n5, p0, p1, p2, p3, p4, p5, m0, m1, m2, m3, m4, m5, l0, l1, l2, l3, l4, l5, pay60, lanes_of, f62, f63, f64, f65, f66, f67, f68, f69, f70, f73, f74, f75, f77, f78, f79, f80, f82, f83, f84, f86, f87, f90, f91, f93, f95, f96, f97, f98, f99, f100, f101, f103, f105, f108, f109, f1, f16, f24, f33, f42, f50, f20, f28, f37, f46, f55, f21, f29, f38, f47, f56, f22, f31, f39, f48, f57, resid1, resid2, resid3, resid4, resid5, resid6]
  iapply Hk
  isplitl [H1]; · iexists _; isplitr; swap; · iexact H1
                  ipureintro; exact h1.read_unread _
  isplitl [H2]; · iexists _; isplitr; swap; · iexact H2
                  ipureintro; exact h2.read_unread _
  isplitl [H3]; · iexists _; isplitr; swap; · iexact H3
                  ipureintro; exact read_stored _ _ _ _ _
  isplitl [H4]; · iexists _; isplitr; swap; · iexact H4
                  ipureintro; exact funext fun y => (read_rows (F := F) a4.view _ (fun q => idxRow (resid x1 x2 q) (bookOf x2 q)) [] _ _ _ _ _ _ y).trans (if_pos (y 0).isLt)
  isplitl [H5]; · iexists _; isplitr; swap; · iexact H5
                  ipureintro; exact h5.read_unread _
  isplitl [H6]; · iexists _; isplitr; swap; · iexact H6
                  ipureintro; exact h6.read_unread _
  isplitl [H7]; · iexists _; isplitr; swap; · iexact H7
                  ipureintro; exact h7.read_unread _
  isplitl [H8]; · iexists _; isplitr; swap; · iexact H8
                  ipureintro; exact funext fun y => (read_rows (F := F) a8.view _ (fun q => cntRow x1 x2 q (rowOf d8 q)) [] _ _ _ _ _ _ y).trans (congrArg (ite _ _) (congrFun (h8.read_unread d8) y))
  isplitl [H9]; · iexists _; isplitr; swap; · iexact H9
                  ipureintro; exact funext fun y => (read_rows (F := F) a9.view _ (fun q => sseRow x1 x2 q (rowOf d9 q)) [] _ _ _ _ _ _ y).trans (congrArg (ite _ _) (congrFun (h9.read_unread d9) y))
  isplitl [H10]; · iexists _; isplitr; swap; · iexact H10
                   ipureintro; exact h10.read_unread _
  isplitl [H11]; · iexists _; isplitr; swap; · iexact H11
                   ipureintro; exact h11.read_unread _
  iexists _; isplitr; swap; · iexact H12
  ipureintro; exact h12.read_unread _

set_option maxHeartbeats 8000000 in
/-- The body at the last point: the same, and the two means of what has been counted and summed. -/
theorem run_last (c : Dev nD) (i : grid0.Coords) (a1 : Memref sig .tc .vmem S512x512 .f32) (h1 : a1.IsWhole) (a2 : Memref sig .tc .vmem S6x1024x512 .f32) (h2 : a2.IsWhole) (a3 : Memref sig .tc .vmem S512x512 .f32) (h3 : a3.IsWhole) (a4 : Memref sig .tc .vmem S6x512 .i32) (h4 : a4.IsWhole) (a5 : Memref sig .tc .vmem S1x1 .f32) (h5 : a5.IsWhole) (a6 : Memref sig .tc .vmem S1x1 .f32) (h6 : a6.IsWhole) (a7 : Memref sig .tc .vmem S8x1024 .f32) (h7 : a7.IsWhole) (a8 : Memref sig .tc .vmem S8x1024 .f32) (h8 : a8.IsWhole) (a9 : Memref sig .tc .vmem S8x128 .f32) (h9 : a9.IsWhole) (a10 : Memref sig .tc .vmem S6x1024x512 .bf16) (h10 : a10.IsWhole) (a11 : Memref sig .tc .vmem S6x1024x512 .bf16) (h11 : a11.IsWhole) (a12 : Memref sig .tc .vmem S6x1024x512 .bf16) (h12 : a12.IsWhole) (x1 : Vec F S512x512 .f32) (x2 : Vec F S6x1024x512 .f32)
    (hc0 : ¬ atFirst i) (hc1 : k0_cond2 i = 1#1) (d7 : Vec F S8x1024 .f32) (d8 : Vec F S8x1024 .f32) (d9 : Vec F S8x128 .f32) (d10 d11 d12 : Vec F S6x1024x512 .bf16) (hF : Filled x2 d7 d10 d11 d12) (E : Set ℕ) (Q : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ owns (c : Thread nD τ) a7 fullShare d7 ∗ owns (c : Thread nD τ) a8 fullShare d8 ∗ owns (c : Thread nD τ) a9 fullShare d9 ∗ owns (c : Thread nD τ) a10 fullShare d10 ∗ owns (c : Thread nD τ) a11 fullShare d11 ∗ owns (c : Thread nD τ) a12 fullShare d12
      ∗ (iprop(owns (c : Thread nD τ) a1 fullShare x1 ∗ owns (c : Thread nD τ) a2 fullShare x2 ∗ owns (c : Thread nD τ) a3 fullShare (tileOut x1 x2) ∗ owns (c : Thread nD τ) a4 fullShare (tileIdx x1 x2) ∗ owns (c : Thread nD τ) a5 fullShare (k0_pay6 (summed x1 x2 d9)) ∗ owns (c : Thread nD τ) a6 fullShare (k0_pay5 (counted x1 x2 d8)) ∗ owns (c : Thread nD τ) a7 fullShare d7 ∗ owns (c : Thread nD τ) a8 fullShare (counted x1 x2 d8) ∗ owns (c : Thread nD τ) a9 fullShare (summed x1 x2 d9) ∗ owns (c : Thread nD τ) a10 fullShare d10 ∗ owns (c : Thread nD τ) a11 fullShare d11 ∗ owns (c : Thread nD τ) a12 fullShare d12) -∗ Q ⟨⟩))
    ⊢ wp frame (wpE (defs₀ (F := F)) Variants.none c none) E (cc0__rvq_body i a1 h1 a2 h2 a3 h3 a4 h4 a5 h5 a6 h6 a7 h7 a8 h8 a9 h9 a10 h10 a11 h11 a12 h12) Q := by
  have n0 := hF.nrm 0 (by decide); have n1 := hF.nrm 1 (by decide); have n2 := hF.nrm 2 (by decide); have n3 := hF.nrm 3 (by decide); have n4 := hF.nrm 4 (by decide); have n5 := hF.nrm 5 (by decide)
  have p0 := hF.hi 0 (by decide); have p1 := hF.hi 1 (by decide); have p2 := hF.hi 2 (by decide); have p3 := hF.hi 3 (by decide); have p4 := hF.hi 4 (by decide); have p5 := hF.hi 5 (by decide)
  have m0 := hF.mid 0 (by decide); have m1 := hF.mid 1 (by decide); have m2 := hF.mid 2 (by decide); have m3 := hF.mid 3 (by decide); have m4 := hF.mid 4 (by decide); have m5 := hF.mid 5 (by decide)
  have l0 := hF.lo 0 (by decide); have l1 := hF.lo 1 (by decide); have l2 := hF.lo 2 (by decide); have l3 := hF.lo 3 (by decide); have l4 := hF.lo 4 (by decide); have l5 := hF.lo 5 (by decide)
  unfold owns
  iintro ⟨⟨%f1, %hf1, H1⟩, ⟨%f2, %hf2, H2⟩, ⟨%d3, %f3, %hf3, H3⟩, ⟨%d4, %f4, %hf4, H4⟩, ⟨%d5, %f5, %hf5, H5⟩, ⟨%d6, %f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  sl_unfold [cc0__rvq_body]
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec!
  sl_step
  sl_unfold_words
  simp (disch := decide) only [↓View.readCov_skip, View.readCov_cons_toLoadRect, read_row, read_book, readWhole, readFilled, n0, n1, n2, n3, n4, n5, p0, p1, p2, p3, p4, p5, m0, m1, m2, m3, m4, m5, l0, l1, l2, l3, l4, l5, pay60, lanes_of, f62, f63, f64, f65, f66, f67, f68, f69, f70, f73, f74, f75, f77, f78, f79, f80, f82, f83, f84, f86, f87, f90, f91, f93, f95, f96, f97, f98, f99, f100, f101, f103, f105, f108, f109, f1, f16, f24, f33, f42, f50, f20, f28, f37, f46, f55, f21, f29, f38, f47, f56, f22, f31, f39, f48, f57, resid1, resid2, resid3, resid4, resid5, resid6]
  iapply Hk
  isplitl [H1]; · iexists _; isplitr; swap; · iexact H1
                  ipureintro; exact h1.read_unread _
  isplitl [H2]; · iexists _; isplitr; swap; · iexact H2
                  ipureintro; exact h2.read_unread _
  isplitl [H3]; · iexists _; isplitr; swap; · iexact H3
                  ipureintro; exact read_stored _ _ _ _ _
  isplitl [H4]; · iexists _; isplitr; swap; · iexact H4
                  ipureintro; exact funext fun y => (read_rows (F := F) a4.view _ (fun q => idxRow (resid x1 x2 q) (bookOf x2 q)) [] _ _ _ _ _ _ y).trans (if_pos (y 0).isLt)
  isplitl [H5]; · iexists _; isplitr; swap; · iexact H5
                  ipureintro; exact (read_stored _ _ _ _ _).trans (congrArg k0_pay6 ((readAt_whole _ _ _).trans (funext fun y => (read_rows (F := F) a9.view _ (fun q => sseRow x1 x2 q (rowOf d9 q)) [] _ _ _ _ _ _ y).trans (congrArg (ite _ _) (congrFun (h9.read_unread d9) y)))))
  isplitl [H6]; · iexists _; isplitr; swap; · iexact H6
                  ipureintro; exact (read_stored _ _ _ _ _).trans (congrArg k0_pay5 ((readAt_whole _ _ _).trans (funext fun y => (read_rows (F := F) a8.view _ (fun q => cntRow x1 x2 q (rowOf d8 q)) [] _ _ _ _ _ _ y).trans (congrArg (ite _ _) (congrFun (h8.read_unread d8) y)))))
  isplitl [H7]; · iexists _; isplitr; swap; · iexact H7
                  ipureintro; exact h7.read_unread _
  isplitl [H8]; · iexists _; isplitr; swap; · iexact H8
                  ipureintro; exact funext fun y => (read_rows (F := F) a8.view _ (fun q => cntRow x1 x2 q (rowOf d8 q)) [] _ _ _ _ _ _ y).trans (congrArg (ite _ _) (congrFun (h8.read_unread d8) y))
  isplitl [H9]; · iexists _; isplitr; swap; · iexact H9
                  ipureintro; exact funext fun y => (read_rows (F := F) a9.view _ (fun q => sseRow x1 x2 q (rowOf d9 q)) [] _ _ _ _ _ _ y).trans (congrArg (ite _ _) (congrFun (h9.read_unread d9) y))
  isplitl [H10]; · iexists _; isplitr; swap; · iexact H10
                   ipureintro; exact h10.read_unread _
  isplitl [H11]; · iexists _; isplitr; swap; · iexact H11
                   ipureintro; exact h11.read_unread _
  iexists _; isplitr; swap; · iexact H12
  ipureintro; exact h12.read_unread _

set_option maxHeartbeats 8000000 in
/-- The body at the first point: it fills the scratch, then adds its tile to counts and sums that start at zero. -/
theorem run_first (c : Dev nD) (i : grid0.Coords) (a1 : Memref sig .tc .vmem S512x512 .f32) (h1 : a1.IsWhole) (a2 : Memref sig .tc .vmem S6x1024x512 .f32) (h2 : a2.IsWhole) (a3 : Memref sig .tc .vmem S512x512 .f32) (h3 : a3.IsWhole) (a4 : Memref sig .tc .vmem S6x512 .i32) (h4 : a4.IsWhole) (a5 : Memref sig .tc .vmem S1x1 .f32) (h5 : a5.IsWhole) (a6 : Memref sig .tc .vmem S1x1 .f32) (h6 : a6.IsWhole) (a7 : Memref sig .tc .vmem S8x1024 .f32) (h7 : a7.IsWhole) (a8 : Memref sig .tc .vmem S8x1024 .f32) (h8 : a8.IsWhole) (a9 : Memref sig .tc .vmem S8x128 .f32) (h9 : a9.IsWhole) (a10 : Memref sig .tc .vmem S6x1024x512 .bf16) (h10 : a10.IsWhole) (a11 : Memref sig .tc .vmem S6x1024x512 .bf16) (h11 : a11.IsWhole) (a12 : Memref sig .tc .vmem S6x1024x512 .bf16) (h12 : a12.IsWhole) (x1 : Vec F S512x512 .f32) (x2 : Vec F S6x1024x512 .f32)
    (hc0 : atFirst i) (hc1 : ¬ (k0_cond2 i = 1#1)) (d5 d6 : Vec F S1x1 .f32) (E : Set ℕ) (Q : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d) ∗ owns (c : Thread nD τ) a5 fullShare d5 ∗ owns (c : Thread nD τ) a6 fullShare d6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
      ∗ (iprop(∃ d7 d10 d11 d12, ⌜Filled x2 d7 d10 d11 d12⌝ ∗ owns (c : Thread nD τ) a1 fullShare x1 ∗ owns (c : Thread nD τ) a2 fullShare x2 ∗ owns (c : Thread nD τ) a3 fullShare (tileOut x1 x2) ∗ owns (c : Thread nD τ) a4 fullShare (tileIdx x1 x2) ∗ owns (c : Thread nD τ) a5 fullShare d5 ∗ owns (c : Thread nD τ) a6 fullShare d6 ∗ owns (c : Thread nD τ) a7 fullShare d7 ∗ owns (c : Thread nD τ) a8 fullShare (counted x1 x2 k0_pay58) ∗ owns (c : Thread nD τ) a9 fullShare (summed x1 x2 k0_pay59) ∗ owns (c : Thread nD τ) a10 fullShare d10 ∗ owns (c : Thread nD τ) a11 fullShare d11 ∗ owns (c : Thread nD τ) a12 fullShare d12) -∗ Q ⟨⟩))
    ⊢ wp frame (wpE (defs₀ (F := F)) Variants.none c none) E (cc0__rvq_body i a1 h1 a2 h2 a3 h3 a4 h4 a5 h5 a6 h6 a7 h7 a8 h8 a9 h9 a10 h10 a11 h11 a12 h12) Q := by
  unfold owns
  iintro ⟨⟨%f1, %hf1, H1⟩, ⟨%f2, %hf2, H2⟩, ⟨%d3, %f3, %hf3, H3⟩, ⟨%d4, %f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, Hk⟩
  sl_unfold [cc0__rvq_body]
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec!
  sl_step
  sl_unfold_words
  simp (disch := decide) only [↓View.readCov_skip, View.readCov_cons_toLoadRect, read_row, read_book, readWhole, readFilled, pay60, lanes_of, f62, f63, f64, f65, f66, f67, f68, f69, f70, f73, f74, f75, f77, f78, f79, f80, f82, f83, f84, f86, f87, f90, f91, f93, f95, f96, f97, f98, f99, f100, f101, f103, f105, f108, f109, f1, f16, f24, f33, f42, f50, f20, f28, f37, f46, f55, f21, f29, f38, f47, f56, f22, f31, f39, f48, f57, resid1, resid2, resid3, resid4, resid5, resid6]
  iapply Hk
  iexists _; iexists _; iexists _; iexists _
  isplitr
  swap
  isplitl [H1]; · iexists _; isplitr; swap; · iexact H1
                  ipureintro; exact h1.read_unread _
  isplitl [H2]; · iexists _; isplitr; swap; · iexact H2
                  ipureintro; exact h2.read_unread _
  isplitl [H3]; · iexists _; isplitr; swap; · iexact H3
                  ipureintro; exact read_stored _ _ _ _ _
  isplitl [H4]; · iexists _; isplitr; swap; · iexact H4
                  ipureintro; exact funext fun y => (read_rows (F := F) a4.view _ (fun q => idxRow (resid x1 x2 q) (bookOf x2 q)) [] _ _ _ _ _ _ y).trans (if_pos (y 0).isLt)
  isplitl [H5]; · iexists _; isplitr; swap; · iexact H5
                  ipureintro; exact h5.read_unread _
  isplitl [H6]; · iexists _; isplitr; swap; · iexact H6
                  ipureintro; exact h6.read_unread _
  isplitl [H7]; · iexists _; isplitr; swap; · iexact H7
                  ipureintro; rfl
  isplitl [H8]; · iexists _; isplitr; swap; · iexact H8
                  ipureintro; exact funext fun y => (read_rows (F := F) a8.view _ (fun q => cntRow x1 x2 q (rowOf k0_pay58 q)) [⟨Rect.unit (s := S8x1024) ![0, 0] ![8, 1024] _, k0_pay58⟩] _ _ _ _ _ _ y).trans (congrArg (ite _ _) (congrFun (read_stored _ _ _ _ _) y))
  isplitl [H9]; · iexists _; isplitr; swap; · iexact H9
                  ipureintro; exact funext fun y => (read_rows (F := F) a9.view _ (fun q => sseRow x1 x2 q (rowOf k0_pay59 q)) [⟨Rect.unit (s := S8x128) ![0, 0] ![8, 128] _, k0_pay59⟩] _ _ _ _ _ _ y).trans (congrArg (ite _ _) (congrFun (read_stored _ _ _ _ _) y))
  isplitl [H10]; · iexists _; isplitr; swap; · iexact H10
                   ipureintro; rfl
  isplitl [H11]; · iexists _; isplitr; swap; · iexact H11
                   ipureintro; rfl
  iexists _; isplitr; swap; · iexact H12
  ipureintro; rfl
  ipureintro
  exact ⟨fun q hq => rowOf_eq _ _ q (by omega) fun j => (read_rows (F := F) a7.view _ (fun q => k0_pay8 (bookOf x2 q)) [] _ _ _ _ _ _ (ix2 ⟨q, by omega⟩ j)).trans (if_pos hq),
    fun q hq => bookOf_eq _ _ q hq fun j l => read_books (F := F) a10.view _ (fun q => k0_pay12 (bookOf x2 q)) _ _ _ _ _ _ (ix3 ⟨q, hq⟩ j l) hq,
    fun q hq => bookOf_eq _ _ q hq fun j l => read_books (F := F) a11.view _ (fun q => k0_pay13 (bookOf x2 q)) _ _ _ _ _ _ (ix3 ⟨q, hq⟩ j l) hq,
    fun q hq => bookOf_eq _ _ q hq fun j l => read_books (F := F) a12.view _ (fun q => k0_pay14 (bookOf x2 q)) _ _ _ _ _ _ (ix3 ⟨q, hq⟩ j l) hq⟩

end Cert.KernelIdeal.Hand

end
-- ==== Proof.Values.lean ====
module

public import proofs.«01_k».proof.Proof.Gen.KernelIdeal.Frame
public import proofs.«01_k».proof.Proof.Gen.KernelIdeal.Points
public import proofs.«01_k».proof.Proof.BodyValues
public import Idealize.ShloMosaic.Lib.Pipeline.FrameBody
public import Idealize.ShloMosaic.Lib.Pipeline.ValueKit.Geometry
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame kit. -/
local notation "𝕄" => MT nD τ sig Unit (Elt F) ℕ (UR sig nD τ) ℕ

/-! ## The grid's points -/

theorem first_iff : ∀ t : Fin grid0.N, atFirst (grid0.coords t) ↔ t.val = 0 := by decide +kernel
theorem last_iff : ∀ t : Fin grid0.N, k0_cond2 (grid0.coords t) = 1#1 ↔ t.val = 15 := by decide +kernel

variable (m : (ℓ : Loc nD τ sig) → Buf (Elt F) ℓ) (ρ : Dev nD → PrngReg)

/-- The codebooks as launched; tile `t` of the tokens. -/
def books (c : Dev nD) : Vec F S6x1024x512 .f32 := V m c main_arg1
def tile (c : Dev nD) (t : Fin cfg0.N) : Vec F S512x512 .f32 := iblk m c 0 t

/-- The counts after the first `n` tiles; the summed squares likewise. -/
def cnts (c : Dev nD) : (n : ℕ) → n ≤ cfg0.N → Vec F S8x1024 .f32
  | 0, _ => k0_pay58
  | n + 1, h => counted (tile m c ⟨n, h⟩) (books m c) (cnts c n (Nat.le_of_succ_le h))
def sses (c : Dev nD) : (n : ℕ) → n ≤ cfg0.N → Vec F S8x128 .f32
  | 0, _ => k0_pay59
  | n + 1, h => summed (tile m c ⟨n, h⟩) (books m c) (sses c n (Nat.le_of_succ_le h))

/-- What the points carry in scratch: nothing before the first; then the codebooks' norms and parts, the counts and the sums. -/
def PhiS (c : Dev nD) : (n : ℕ) → n ≤ cfg0.N → sProp 𝕄
  | 0, _ => Pipeline.ΦA spec0 c
  | n + 1, h => iprop((∃ d7 d10 d11 d12, ⌜Filled (books m c) d7 d10 d11 d12⌝ ∗ owns (c : Thread nD τ) (Memref.whole cc0_scratch0) fullShare d7
      ∗ owns (c : Thread nD τ) (Memref.whole cc0_scratch1) fullShare (cnts m c (n + 1) h) ∗ owns (c : Thread nD τ) (Memref.whole cc0_scratch2) fullShare (sses m c (n + 1) h)
      ∗ owns (c : Thread nD τ) (Memref.whole cc0_scratch3) fullShare d10 ∗ owns (c : Thread nD τ) (Memref.whole cc0_scratch4) fullShare d11
      ∗ owns (c : Thread nD τ) (Memref.whole cc0_scratch5) fullShare d12) ∗ ∃ r, prngReg c r)

/-- The pipeline's data: what each window's buffer holds after each point, and what the points carry. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (tile m c t) (books m c)
    | ⟨3, _⟩ => tileIdx (tile m c t) (books m c)
    | ⟨4, _⟩ => k0_pay6 (sses m c (t.val + 1) t.isLt)
    | ⟨5, _⟩ => k0_pay5 (cnts m c (t.val + 1) t.isLt)
  Φ t := PhiS m c t.val (Nat.le_of_lt_succ t.isLt)
  q _ := fullShare
  owed _ := 0

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = tileOut (tile m c t) (books m c) := by dsimp only [vdats]
theorem vafter_3 (c : Dev nD) (t : Fin cfg0.N) : (vdats m 0 c).after 3 t = tileIdx (tile m c t) (books m c) := by dsimp only [vdats]
theorem vafter_4 (c : Dev nD) (t : Fin cfg0.N) : (vdats m 0 c).after 4 t = k0_pay6 (sses m c (t.val + 1) t.isLt) := by dsimp only [vdats]
theorem vafter_5 (c : Dev nD) (t : Fin cfg0.N) : (vdats m 0 c).after 5 t = k0_pay5 (cnts m c (t.val + 1) t.isLt) := by dsimp only [vdats]
theorem vbefore_0 (c : Dev nD) (t : Fin cfg0.N) (d) : (vdats m 0 c).before 0 t d = iblk m c 0 t :=
  before0_0_of m (vdats m 0 c) rfl (vafter_0 m c) t d
theorem vbefore_1 (c : Dev nD) (t : Fin cfg0.N) (d) : (vdats m 0 c).before 1 t d = iblk m c 1 t :=
  before0_1_of m (vdats m 0 c) rfl (vafter_1 m c) t d
theorem Phi_castSucc (c : Dev nD) (t : Fin cfg0.N) : (vdats m 0 c).Φ t.castSucc = PhiS m c t.val (Nat.le_of_lt t.isLt) := by
  dsimp only [vdats]; exact Pipeline.Dat.Φ_castSucc (PhiS m c) t
theorem Phi_succ (c : Dev nD) (t : Fin cfg0.N) : (vdats m 0 c).Φ t.succ = PhiS m c (t.val + 1) t.isLt := by
  dsimp only [vdats]; rfl

/-- The codebooks' window is the whole array at every point. -/
theorem iblk_1 (c : Dev nD) (t : Fin cfg0.N) : iblk m c 1 t = books m c := funext fun y =>
  congrArg (V m c main_arg1) (funext fun a => Fin.ext (by
    show ((((cfg0.win 1).blk t).view.emb y) a).val = (y a).val
    match a with
    | ⟨0, _⟩ => blk_simp; rw [show win0_1.index t 0 = 0 from rfl, Nat.zero_mul, Nat.zero_add]
    | ⟨1, _⟩ => blk_simp; rw [show win0_1.index t 1 = 0 from rfl, Nat.zero_mul, Nat.zero_add]
    | ⟨2, _⟩ => blk_simp; rw [show win0_1.index t 2 = 0 from rfl, Nat.zero_mul, Nat.zero_add]))

theorem idle_4 (t : Fin cfg0.N) (h : ¬ k0_cond2 (grid0.coords t) = 1#1) : idle0 4 (grid0.coords t) = true := by
  show (!(k0_cond2 (grid0.coords t) == 1#1)) = true
  simpa using h
theorem idle_5 (t : Fin cfg0.N) (h : ¬ k0_cond2 (grid0.coords t) = 1#1) : idle0 5 (grid0.coords t) = true := idle_4 t h
theorem live_4 (t : Fin cfg0.N) (h : k0_cond2 (grid0.coords t) = 1#1) : idle0 4 (grid0.coords t) = false := by
  show (!(k0_cond2 (grid0.coords t) == 1#1)) = false
  simpa using h
theorem live_5 (t : Fin cfg0.N) (h : k0_cond2 (grid0.coords t) = 1#1) : idle0 5 (grid0.coords t) = false := live_4 t h

/-- The body's obligation at every grid point. -/
theorem vbody (c : Dev nD) : BodyObligation (vdats (F := F) m 0 c) (defs₀ (F := F)) Variants.none () Set.univ := fun t => by
  have hN : t.val < 16 := by exact lt_of_lt_of_eq t.isLt N_0
  rw [bigSep_W0, bigSep_W0]
  sl_whnfR [defs₀, Defs.onTc]
  simp only [vbefore_0, vbefore_1]
  rw [Phi_castSucc, Phi_succ, show (vdats m 0 c).owesAt () t.succ = (vdats m 0 c).owesAt () t.castSucc from rfl]
  rcases (show t.val = 0 ∨ t.val = 15 ∨ (t.val ≠ 0 ∧ t.val ≠ 15) from by omega) with ht | ht | ⟨ht0, ht15⟩
  · have hc1 : ¬ k0_cond2 (grid0.coords t) = 1#1 := (fun h => by have := (last_iff t).mp h; omega)
    have hf4 : (cfg0.win 4).flush t = false := by rw [Bool.eq_false_iff]; intro h; have := (flush0_4 t).mp h; omega
    have hf5 : (cfg0.win 5).flush t = false := by rw [Bool.eq_false_iff]; intro h; have := (flush0_5 t).mp h; omega
    simp only [idle_4 t hc1, idle_5 t hc1, hf4, hf5]
    have hc0 : atFirst (grid0.coords t) := (first_iff t).mpr ht
    rw [vafter_0, vafter_1, vafter_2, vafter_3]
    obtain ⟨n, hn⟩ := t
    dsimp only at ht ⊢
    subst ht
    rw [iblk_1]
    dsimp only [PhiS]
    unfold Pipeline.ΦA
    rw [scopedRest0_eq]
    simp only [← owns_whole]
    iintro ⟨⟨⟨H7, H8, H9, H10, H11, H12⟩, Hg⟩, Ho, ⟨%d0, H1⟩, ⟨%d1, H2⟩, ⟨%e2, H3⟩, ⟨%e3, H4⟩, ⟨%e4, H5⟩, ⟨%e5, H6⟩⟩
    iapply (run_first (F := F) c (grid0.coords _) (win0_0.stage (cfg0.slots _ 0)) (hstage0_0 _) (win0_1.stage (cfg0.slots _ 1)) (hstage0_1 _) (win0_2.stage (cfg0.slots _ 2)) (hstage0_2 _) (win0_3.stage (cfg0.slots _ 3)) (hstage0_3 _) (win0_4.stage (cfg0.slots _ 4)) (hstage0_4 _) (win0_5.stage (cfg0.slots _ 5)) (hstage0_5 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _ _ hc0 hc1 _ _ Set.univ _)
    isplitl [H1]; · iexact H1
    isplitl [H2]; · iexact H2
    isplitl [H3]; · iexists _; iexact H3
    isplitl [H4]; · iexists _; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨%d7, %d10, %d11, %d12, %hF, H1, H2, H3, H4, H5, H6, H7, H8, H9, H10, H11, H12⟩
    isplitl [H7 H8 H9 H10 H11 H12 Hg]
    · isplitl [H7 H8 H9 H10 H11 H12]
      · iexists d7; iexists d10; iexists d11; iexists d12
        isplitr; · ipureintro; exact hF
        isplitl [H7]; · iexact H7
        isplitl [H8]; · iexact H8
        isplitl [H9]; · iexact H9
        isplitl [H10]; · iexact H10
        isplitl [H11]; · iexact H11
        iexact H12
      · iexact Hg
    isplitl [Ho]; · iexact Ho
    isplitl [H1]; · iexact H1
    isplitl [H2]; · iexact H2
    isplitl [H3]; · iexact H3
    isplitl [H4]; · iexact H4
    isplitl [H5]; · iexists e4; iexact H5
    iexists e5; iexact H6
  · have hc1 : k0_cond2 (grid0.coords t) = 1#1 := (last_iff t).mpr ht
    simp only [live_4 t hc1, live_5 t hc1]
    have hc0 : ¬ atFirst (grid0.coords t) := fun h => by have := (first_iff t).mp h; omega
    rw [vafter_0, vafter_1, vafter_2, vafter_3, vafter_4, vafter_5]
    obtain ⟨n, hn⟩ := t
    dsimp only at ht ⊢
    obtain ⟨k, rfl⟩ : ∃ k, n = k + 1 := ⟨n - 1, by omega⟩
    rw [iblk_1]
    dsimp only [PhiS]
    iintro ⟨⟨⟨%d7, %d10, %d11, %d12, %hF, H7, H8, H9, H10, H11, H12⟩, Hg⟩, Ho, ⟨%d0, H1⟩, ⟨%d1, H2⟩, ⟨%e2, H3⟩, ⟨%e3, H4⟩, ⟨%e4, H5⟩, ⟨%e5, H6⟩⟩
    iapply (run_last (F := F) c (grid0.coords _) (win0_0.stage (cfg0.slots _ 0)) (hstage0_0 _) (win0_1.stage (cfg0.slots _ 1)) (hstage0_1 _) (win0_2.stage (cfg0.slots _ 2)) (hstage0_2 _) (win0_3.stage (cfg0.slots _ 3)) (hstage0_3 _) (win0_4.stage (cfg0.slots _ 4)) (hstage0_4 _) (win0_5.stage (cfg0.slots _ 5)) (hstage0_5 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _ _ hc0 hc1 d7 _ _ d10 d11 d12 hF Set.univ _)
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexact H7
    isplitl [H8]; · iexact H8
    isplitl [H9]; · iexact H9
    isplitl [H10]; · iexact H10
    isplitl [H11]; · iexact H11
    isplitl [H12]; · iexact H12
    iintro ⟨H1, H2, H3, H4, H5, H6, H7, H8, H9, H10, H11, H12⟩
    isplitl [H7 H8 H9 H10 H11 H12 Hg]
    · isplitl [H7 H8 H9 H10 H11 H12]
      · iexists d7; iexists d10; iexists d11; iexists d12
        isplitr; · ipureintro; exact hF
        isplitl [H7]; · iexact H7
        isplitl [H8]; · iexact H8
        isplitl [H9]; · iexact H9
        isplitl [H10]; · iexact H10
        isplitl [H11]; · iexact H11
        iexact H12
      · iexact Hg
    isplitl [Ho]; · iexact Ho
    isplitl [H1]; · iexact H1
    isplitl [H2]; · iexact H2
    isplitl [H3]; · iexact H3
    isplitl [H4]; · iexact H4
    isplitl [H5]; · iexact H5
    iexact H6
  · have hc1 : ¬ k0_cond2 (grid0.coords t) = 1#1 := (fun h => by have := (last_iff t).mp h; omega)
    have hf4 : (cfg0.win 4).flush t = false := by rw [Bool.eq_false_iff]; intro h; have := (flush0_4 t).mp h; omega
    have hf5 : (cfg0.win 5).flush t = false := by rw [Bool.eq_false_iff]; intro h; have := (flush0_5 t).mp h; omega
    simp only [idle_4 t hc1, idle_5 t hc1, hf4, hf5]
    have hc0 : ¬ atFirst (grid0.coords t) := fun h => by have := (first_iff t).mp h; omega
    rw [vafter_0, vafter_1, vafter_2, vafter_3]
    obtain ⟨n, hn⟩ := t
    dsimp only at ht0 ht15 ⊢
    obtain ⟨k, rfl⟩ : ∃ k, n = k + 1 := ⟨n - 1, by omega⟩
    rw [iblk_1]
    dsimp only [PhiS]
    iintro ⟨⟨⟨%d7, %d10, %d11, %d12, %hF, H7, H8, H9, H10, H11, H12⟩, Hg⟩, Ho, ⟨%d0, H1⟩, ⟨%d1, H2⟩, ⟨%e2, H3⟩, ⟨%e3, H4⟩, ⟨%e4, H5⟩, ⟨%e5, H6⟩⟩
    iapply (run_mid (F := F) c (grid0.coords _) (win0_0.stage (cfg0.slots _ 0)) (hstage0_0 _) (win0_1.stage (cfg0.slots _ 1)) (hstage0_1 _) (win0_2.stage (cfg0.slots _ 2)) (hstage0_2 _) (win0_3.stage (cfg0.slots _ 3)) (hstage0_3 _) (win0_4.stage (cfg0.slots _ 4)) (hstage0_4 _) (win0_5.stage (cfg0.slots _ 5)) (hstage0_5 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _ _ hc0 hc1 d7 _ _ d10 d11 d12 hF _ _ Set.univ _)
    isplitl [H1]; · iexact H1
    isplitl [H2]; · iexact H2
    isplitl [H3]; · iexists _; iexact H3
    isplitl [H4]; · iexists _; iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H1, H2, H3, H4, H5, H6, H7, H8, H9, H10, H11, H12⟩
    isplitl [H7 H8 H9 H10 H11 H12 Hg]
    · isplitl [H7 H8 H9 H10 H11 H12]
      · iexists d7; iexists d10; iexists d11; iexists d12
        isplitr; · ipureintro; exact hF
        isplitl [H7]; · iexact H7
        isplitl [H8]; · iexact H8
        isplitl [H9]; · iexact H9
        isplitl [H10]; · iexact H10
        isplitl [H11]; · iexact H11
        iexact H12
      · iexact Hg
    isplitl [Ho]; · iexact Ho
    isplitl [H1]; · iexact H1
    isplitl [H2]; · iexact H2
    isplitl [H3]; · iexact H3
    isplitl [H4]; · iexact H4
    isplitl [H5]; · iexists e4; iexact H5
    iexists e5; iexact H6

theorem Phi_in (c : Dev nD) : Pipeline.ΦA spec0 c ⊢ (vdats (F := F) m 0 c).Φ 0 := by
  rw [show (vdats m 0 c).Φ 0 = Pipeline.ΦA spec0 c from rfl]
theorem PhiS_pos (c : Dev nD) : (n : ℕ) → (h : n ≤ cfg0.N) → PhiS (F := F) m c n h ⊢ Pipeline.ΦA spec0 c
  | 0, _ => .rfl
  | n + 1, h => by
    dsimp only [PhiS]
    unfold Pipeline.ΦA
    rw [scopedRest0_eq]
    simp only [← owns_whole]
    iintro ⟨⟨%d7, %d10, %d11, %d12, %hF, H7, H8, H9, H10, H11, H12⟩, Hg⟩
    isplitl [H7 H8 H9 H10 H11 H12]
    · isplitl [H7]; · iexists _; iexact H7
      isplitl [H8]; · iexists _; iexact H8
      isplitl [H9]; · iexists _; iexact H9
      isplitl [H10]; · iexists _; iexact H10
      isplitl [H11]; · iexists _; iexact H11
      iexists _; iexact H12
    · iexact Hg
theorem Phi_out (c : Dev nD) : (vdats (F := F) m 0 c).Φ (Fin.last cfg0.N) ⊢ Pipeline.ΦA spec0 c := by
  dsimp only [vdats]; exact PhiS_pos m c _ _

set_option backward.isDefEq.respectTransparency.types false in
/-- The whole program: it runs, the arrays end as the pipeline's data say and the buffers after it as the host operations
    leave them. -/
theorem run_main : θ_run defs (onTc (τ := τ) (main (F := F))) ⟨m, fun _ => 0, ρ⟩ (fun r =>
    Pipeline.FramePost cfgs (vdats m) 0 (Pipeline.afterTail₀ cfgs (vdats m) 0 (V0 m) [hostOps1]) r ∧ r.2.sem = fun _ => 0) :=
  Pipeline.θ_run_frame_around_track cfgs (vdats m) (0 : Fin 1) launch0 defs₀ Variants.none m ρ main
    (hbody := fun c => (vbody m c).loose) (hshare := fun c => (vdats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := Phi_in m) (hout := Phi_out m) (Q' := _) (hQ' := fun _ h => h)

end Cert.KernelIdeal.Hand

end
-- ==== Proof.KernelReads.lean ====
/- The kernel's run read at its results: the tiles' results put together, and the two sums of the last grid point. -/
module

public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo (after after_cons after_nil)
open Idealize.ShloMosaic.Pipeline (Dat Cfg Window)

variable {F : FTy → Type} [FloatOps F]
variable (m : (ℓ : Loc nD τ sig) → Buf (Elt F) ℓ) (ρ : Dev nD → PrngReg)

/-- All tokens, a row each. -/
def tokens (x : FVec F S8x512x1024 .f32) : FVec F S8192x512 .f32 :=
  shapeCast S8192x512 (transpose S8x1024x512 [0, 2, 1] x transposes_S8x512x1024_S8x1024x512_0_2_1) shapeCasts_S8x1024x512_S8192x512

/-- The region finds the tokens as rows. -/
theorem V_main_v1 (c : Dev nD) : V m c main_v1 = tokens (m ((c : Thread nD τ).loc main_arg0)) := by
  show after (List.flatten [hostOps0]) _ _ = _
  simp only [hostOps0, List.flatten_cons, List.flatten_nil, List.append_nil, after_cons, after_nil]
  after_results_simp
  rfl

theorem books_eq (c : Dev nD) : books m c = m ((c : Thread nD τ).loc main_arg1) := V_main_arg1 m c

/-- The point whose tile a token lies in. -/
def at_ (T : Fin 8192) : Fin cfg0.N := ⟨T.val / 512, lt_of_lt_of_eq (by omega : T.val / 512 < 16) N_0.symm⟩

theorem at0_0 : ∀ t : Fin cfg0.N, win0_0.index t 0 = t.val := by decide +kernel
theorem at2_0 : ∀ t : Fin cfg0.N, win0_2.index t 0 = t.val := by decide +kernel
theorem at3_1 : ∀ t : Fin cfg0.N, win0_3.index t 1 = t.val := by decide +kernel

/-- A tile's rows are its tokens. -/
theorem tile_apply (c : Dev nD) (t : Fin cfg0.N) (a j : Fin 512) (T : Fin 8192) (hT : T.val = t.val * 512 + a.val) :
    tile m c t (ix2 a j) = tokens (m ((c : Thread nD τ).loc main_arg0)) (ix2 T j) := by
  rw [← V_main_v1]
  refine congrArg (V m c main_v1) (funext fun ax => Fin.ext ?_)
  show ((((cfg0.win 0).blk t).view.emb (ix2 a j)) ax).val = _
  match ax with
  | ⟨0, _⟩ => blk_simp; rw [at0_0]; exact hT.symm
  | ⟨1, _⟩ => blk_simp; rw [show win0_0.index t 1 = 0 from rfl, Nat.zero_mul, Nat.zero_add]

/-- The tiles' quantised vectors, all tokens; the tiles' indices likewise. -/
def outArr (c : Dev nD) : FVec F S8192x512 .f32 := fun y =>
  tileOut (tile m c (at_ (y 0))) (books m c) (ix2 ⟨(y 0).val % 512, Nat.mod_lt _ (by norm_num)⟩ (y 1))
def idxArr (c : Dev nD) : IVec S6x8192 32 := fun y =>
  tileIdx (tile m c (at_ (y 1))) (books m c) (ix2 (y 0) ⟨(y 1).val % 512, Nat.mod_lt _ (by norm_num)⟩)

/-- Where a tile's tokens lie among all. -/
theorem at_eq (t : Fin cfg0.N) (a : Fin 512) (T : Fin 8192) (hT : T.val = t.val * 512 + a.val) :
    at_ T = t ∧ (⟨T.val % 512, Nat.mod_lt _ (by norm_num)⟩ : Fin 512) = a :=
  ⟨Fin.ext (by show T.val / 512 = t.val; have := a.isLt; omega), Fin.ext (by show T.val % 512 = a.val; have := a.isLt; omega)⟩

theorem outArr_apply (c : Dev nD) (t : Fin cfg0.N) (a j : Fin 512) (T : Fin 8192) (hT : T.val = t.val * 512 + a.val) :
    outArr m c (ix2 T j) = tileOut (tile m c t) (books m c) (ix2 a j) := by
  show tileOut (tile m c (at_ T)) (books m c) (ix2 (⟨T.val % 512, Nat.mod_lt _ (by norm_num)⟩ : Fin 512) j) = _
  rw [(at_eq t a T hT).1, (at_eq t a T hT).2]
theorem idxArr_apply (c : Dev nD) (t : Fin cfg0.N) (q : Fin 6) (a : Fin 512) (T : Fin 8192) (hT : T.val = t.val * 512 + a.val) :
    idxArr m c (ix2 q T) = tileIdx (tile m c t) (books m c) (ix2 q a) := by
  show tileIdx (tile m c (at_ T)) (books m c) (ix2 q (⟨T.val % 512, Nat.mod_lt _ (by norm_num)⟩ : Fin 512)) = _
  rw [(at_eq t a T hT).1, (at_eq t a T hT).2]

theorem lt_all (t : Fin cfg0.N) (a : Fin 512) : t.val * 512 + a.val < 8192 := by
  have h : t.val < 16 := lt_of_lt_of_eq t.isLt N_0
  have := a.isLt; omega

theorem arr_2 (c : Dev nD) : (vdats m 0 c).arrAt 2 cfg0.N = outArr m c :=
  (vdats m 0 c).arrAt_eq_of_covers 2 _ (by decide +kernel) fun t hf y => by
    blk_simp
    rw [vafter_2]
    obtain ⟨a, j, rfl⟩ : ∃ (a : Fin 512) (j : Fin 512), y = ix2 a j := ⟨y 0, y 1, funext fun ax => by match ax with | ⟨0, _⟩ => rfl | ⟨1, _⟩ => rfl⟩
    refine (outArr_apply m c t a j ⟨_, lt_all t a⟩ rfl).symm.trans (congrArg (outArr m c) (funext fun ax => Fin.ext ?_))
    show _ = ((((cfg0.win 2).blk t).view.emb (ix2 a j)) ax).val
    match ax with
    | ⟨0, _⟩ => blk_simp; rw [at2_0]
    | ⟨1, _⟩ => blk_simp; rw [show win0_2.index t 1 = 0 from rfl, Nat.zero_mul, Nat.zero_add]
theorem arr_3 (c : Dev nD) : (vdats m 0 c).arrAt 3 cfg0.N = idxArr m c :=
  (vdats m 0 c).arrAt_eq_of_covers 3 _ (by decide +kernel) fun t hf y => by
    blk_simp
    rw [vafter_3]
    obtain ⟨q, a, rfl⟩ : ∃ (q : Fin 6) (a : Fin 512), y = ix2 q a := ⟨y 0, y 1, funext fun ax => by match ax with | ⟨0, _⟩ => rfl | ⟨1, _⟩ => rfl⟩
    refine (idxArr_apply m c t q a ⟨_, lt_all t a⟩ rfl).symm.trans (congrArg (idxArr m c) (funext fun ax => Fin.ext ?_))
    show _ = ((((cfg0.win 3).blk t).view.emb (ix2 q a)) ax).val
    match ax with
    | ⟨0, _⟩ => blk_simp; rw [show win0_3.index t 0 = 0 from rfl, Nat.zero_mul, Nat.zero_add]
    | ⟨1, _⟩ => blk_simp; rw [at3_1]

/-- The last point. -/
def lastPt : Fin cfg0.N := ⟨15, lt_of_lt_of_eq (by norm_num : 15 < 16) N_0.symm⟩

theorem sses_congr (c : Dev nD) (n n' : ℕ) (e : n = n') (h : n ≤ cfg0.N) (h' : n' ≤ cfg0.N) : sses m c n h = sses m c n' h' := by
  subst e; rfl
theorem cnts_congr (c : Dev nD) (n n' : ℕ) (e : n = n') (h : n ≤ cfg0.N) (h' : n' ≤ cfg0.N) : cnts m c n h = cnts m c n' h' := by
  subst e; rfl

theorem arr_4 (c : Dev nD) : (vdats m 0 c).arrAt 4 cfg0.N = k0_pay6 (sses m c cfg0.N le_rfl) :=
  (vdats m 0 c).arrAt_eq_of_after_last 4 lastPt (by decide +kernel) _ fun j => by
    rw [vafter_4]
    exact congrFun (congrArg k0_pay6 (sses_congr m c _ _ N_0.symm _ _)) _
theorem arr_5 (c : Dev nD) : (vdats m 0 c).arrAt 5 cfg0.N = k0_pay5 (cnts m c cfg0.N le_rfl) :=
  (vdats m 0 c).arrAt_eq_of_after_last 5 lastPt (by decide +kernel) _ fun j => by
    rw [vafter_5]
    exact congrFun (congrArg k0_pay5 (cnts_congr m c _ _ N_0.symm _ _)) _

/-- The kernel's four results. -/
def outK (c : Dev nD) : FVec F S8x512x1024 .f32 :=
  transpose S8x512x1024 [0, 2, 1] (shapeCast S8x1024x512 (outArr m c) shapeCasts_S8192x512_S8x1024x512) transposes_S8x1024x512_S8x512x1024_0_2_1
def idxK (c : Dev nD) : IVec S8x1024x6 32 :=
  shapeCast S8x1024x6 (transpose S8192x6 [1, 0] (idxArr m c) transposes_S6x8192_S8192x6_1_0) shapeCasts_S8192x6_S8x1024x6
def lossK (c : Dev nD) : FVec F S_ .f32 := shapeCast S_ (k0_pay6 (sses m c cfg0.N le_rfl)) shapeCasts_S1x1_S_
def perpK (c : Dev nD) : FVec F S_ .f32 := shapeCast S_ (k0_pay5 (cnts m c cfg0.N le_rfl)) shapeCasts_S1x1_S_

theorem arr_inj : Function.Injective (Pipeline.arrRef spec0) := by decide

theorem tail_4 (c : Dev nD) : Pipeline.afterTail₀ cfgs (vdats m) 0 (V0 m) [hostOps1] c main_v4 = outK m c := by
  unfold Pipeline.afterTail₀
  simp only [hostOps1, List.flatten_cons, List.flatten_nil, List.append_nil, after_cons, after_nil]
  after_results_simp
  unfold outK
  rw [← arr_2]
  refine congrArg (fun z => transpose S8x512x1024 [0, 2, 1] (shapeCast S8x1024x512 z shapeCasts_S8192x512_S8x1024x512) transposes_S8x1024x512_S8x512x1024_0_2_1) ?_
  exact Pipeline.withArrays_arr spec0 arr_inj c (V0 m c) _ 2
theorem tail_6 (c : Dev nD) : Pipeline.afterTail₀ cfgs (vdats m) 0 (V0 m) [hostOps1] c main_v6 = idxK m c := by
  unfold Pipeline.afterTail₀
  simp only [hostOps1, List.flatten_cons, List.flatten_nil, List.append_nil, after_cons, after_nil]
  after_results_simp
  unfold idxK
  rw [← arr_3]
  refine congrArg (fun z => shapeCast S8x1024x6 (transpose S8192x6 [1, 0] z transposes_S6x8192_S8192x6_1_0) shapeCasts_S8192x6_S8x1024x6) ?_
  exact Pipeline.withArrays_arr spec0 arr_inj c (V0 m c) _ 3
theorem tail_7 (c : Dev nD) : Pipeline.afterTail₀ cfgs (vdats m) 0 (V0 m) [hostOps1] c main_v7 = lossK m c := by
  unfold Pipeline.afterTail₀
  simp only [hostOps1, List.flatten_cons, List.flatten_nil, List.append_nil, after_cons, after_nil]
  after_results_simp
  unfold lossK
  rw [← arr_4]
  refine congrArg (fun z => shapeCast S_ z shapeCasts_S1x1_S_) ?_
  exact Pipeline.withArrays_arr spec0 arr_inj c (V0 m c) _ 4
theorem tail_8 (c : Dev nD) : Pipeline.afterTail₀ cfgs (vdats m) 0 (V0 m) [hostOps1] c main_v8 = perpK m c := by
  unfold Pipeline.afterTail₀
  simp only [hostOps1, List.flatten_cons, List.flatten_nil, List.append_nil, after_cons, after_nil]
  after_results_simp
  unfold perpK
  rw [← arr_5]
  refine congrArg (fun z => shapeCast S_ z shapeCasts_S1x1_S_) ?_
  exact Pipeline.withArrays_arr spec0 arr_inj c (V0 m c) _ 5

/-- The kernel's run, read at its results and its arguments. -/
theorem run_reads : θ_run defs (onTc (τ := τ) (main (F := F))) ⟨m, fun _ => 0, ρ⟩ fun r =>
    (∀ c : Dev nD,
      r.2.mem ((c.tc : Thread nD τ).loc main_v4) = outK m c
      ∧ r.2.mem ((c.tc : Thread nD τ).loc main_v6) = idxK m c
      ∧ r.2.mem ((c.tc : Thread nD τ).loc main_v7) = lossK m c
      ∧ r.2.mem ((c.tc : Thread nD τ).loc main_v8) = perpK m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c =>
    ⟨(h.1.rest_eq c main_v4 (by decide)).trans (tail_4 m c), (h.1.rest_eq c main_v6 (by decide)).trans (tail_6 m c),
      (h.1.rest_eq c main_v7 (by decide)).trans (tail_7 m c), (h.1.rest_eq c main_v8 (by decide)).trans (tail_8 m c),
      (h.1.rest_eq c main_arg0 (by decide)).trans (W_main_arg0 m (vdats m) c),
      (h.1.in_eq c 1 rfl).trans (V_main_arg1 m c)⟩, h.2⟩) (run_main m ρ)

end Cert.KernelIdeal.Hand

end
-- ==== Proof.Spec.lean ====
/- The quantiser of one token in the extended reals: its nearest codeword, the residual that a layer leaves, and the facts
   about sums, differences and least indices that both programs are read by. -/
module

public import Idealize.ShloMosaic.PureOps.Ideal.Laws
public import Idealize.ShloMosaic.Lib.ValueIdx

@[expose] public section

noncomputable section

namespace Cert.Quant

open Idealize.ShloMosaic Idealize.ShloMosaic.ValueIdx

/-- A codebook, as its codewords. -/
abbrev Book := Fin 1024 → Fin 512 → EReal
/-- A token. -/
abbrev Tok := Fin 512 → EReal

/-- The squared distance of a token to codeword `k`, as the programs expand it. -/
def score (v : Tok) (b : Book) (k : Fin 1024) : EReal :=
  (∑ j, v j * v j) - ((2 : ℝ) : EReal) * (∑ j, v j * b k j) + ∑ j, b k j * b k j

/-- The codewords that no codeword is nearer than. -/
def best (v : Tok) (b : Book) : Finset (Fin 1024) := Finset.univ.filter fun k => ∀ k', score v b k ≤ score v b k'

theorem best_nonempty (v : Tok) (b : Book) : (best v b).Nonempty := by
  obtain ⟨k, -, h⟩ := Finset.exists_min_image Finset.univ (score v b) ⟨0, Finset.mem_univ _⟩
  exact ⟨k, Finset.mem_filter.2 ⟨Finset.mem_univ _, fun k' => h k' (Finset.mem_univ _)⟩⟩

/-- The nearest codeword, the one of least index among several. -/
def near (v : Tok) (b : Book) : Fin 1024 := (best v b).min' (best_nonempty v b)

theorem near_le (v : Tok) (b : Book) (k : Fin 1024) : score v b (near v b) ≤ score v b k :=
  (Finset.mem_filter.1 ((best v b).min'_mem (best_nonempty v b))).2 k

theorem near_lt (v : Tok) (b : Book) (k : Fin 1024) (h : k < near v b) : score v b (near v b) < score v b k :=
  lt_of_not_ge fun hle => absurd ((best v b).min'_le k (Finset.mem_filter.2 ⟨Finset.mem_univ _, fun k' => hle.trans (near_le v b k')⟩)) (not_le.2 h)

/-- What one layer leaves of a token. -/
def step (v : Tok) (b : Book) : Tok := fun j => v j - b (near v b) j

/-- What the first `q` layers leave of a token. -/
def traj (v : Tok) (B : ℕ → Book) : ℕ → Tok
  | 0 => v
  | q + 1 => step (traj v B q) (B q)

/-! ## Least indices -/

theorem min_getD (s : Finset ℕ) (n : ℕ) (hn : n ∈ s) (hl : ∀ m ∈ s, n ≤ m) : s.min.getD 0 = n := by
  have e : s.min = (n : WithTop ℕ) := le_antisymm (Finset.min_le hn) (Finset.le_min fun m hm => WithTop.coe_le_coe.2 (hl m hm))
  rw [e]; rfl

/-- The kernel's index of the least value along a row. -/
theorem reduceIndex_row {A K : ℕ} (h : (⟨2, ![A, K]⟩ : Shape).Reduces [1] ⟨1, ![A]⟩) (x : (⟨2, ![A, K]⟩ : Shape).Idx → EReal) (a : Fin A) (n : Fin K)
    (hl : ∀ k : Fin K, h.lift (ix1 a) k = ix2 a k)
    (h1 : ∀ k, x (ix2 a n) ≤ x (ix2 a k)) (h2 : ∀ k, k < n → x (ix2 a n) < x (ix2 a k)) :
    Ideal.reduceIndex .argMin 1 h x (ix1 a) = BitVec.ofNat 32 n.val := by
  classical
  have key : ∀ i, h.drop i = ix1 a → ∃ k : Fin K, i = ix2 a k := fun i hd =>
    ⟨(i 1 : Fin K), by have e := h.lift_drop i; rw [hd] at e; exact e.symm.trans (hl _)⟩
  have hm : ∀ k : Fin K, h.drop (ix2 a k) = ix1 a := fun k => by rw [← hl k]; exact h.drop_lift _ _
  unfold Ideal.reduceIndex
  refine congrArg (BitVec.ofNat 32) (min_getD _ _ ?_ ?_)
  · refine Finset.mem_image.2 ⟨ix2 a n, Finset.mem_filter.2 ⟨Finset.mem_filter.2 ⟨Finset.mem_univ _, hm n⟩, ?_⟩, rfl⟩
    intro i hi
    obtain ⟨k, rfl⟩ := key i (Finset.mem_filter.1 hi).2
    simpa using h1 k
  · intro m hm'
    obtain ⟨i, hi, rfl⟩ := Finset.mem_image.1 hm'
    obtain ⟨hi1, hi2⟩ := Finset.mem_filter.1 hi
    obtain ⟨k, rfl⟩ := key i (Finset.mem_filter.1 hi1).2
    show n.val ≤ k.val
    by_contra hlt
    have := hi2 (ix2 a n) (Finset.mem_filter.2 ⟨Finset.mem_univ _, hm n⟩)
    exact absurd (h2 k (Fin.lt_def.2 (not_le.1 hlt))) (by simpa using this)

/-- A fold that keeps the lesser of two values, and of equal values the lesser index, ends at a pair of the list, or the first
    one, that no pair is before. -/
theorem fold_least (f : EReal × BitVec 32 → EReal × BitVec 32 → EReal × BitVec 32)
    (hf : ∀ a b, f a b = if a.1 < b.1 ∨ (a.1 = b.1 ∧ a.2.toInt < b.2.toInt) then a else b) :
    ∀ (l : List (EReal × BitVec 32)) (p : EReal × BitVec 32),
      (l.foldl f p = p ∨ l.foldl f p ∈ l)
      ∧ ((l.foldl f p).1 < p.1 ∨ ((l.foldl f p).1 = p.1 ∧ (l.foldl f p).2.toInt ≤ p.2.toInt))
      ∧ ∀ q ∈ l, (l.foldl f p).1 < q.1 ∨ ((l.foldl f p).1 = q.1 ∧ (l.foldl f p).2.toInt ≤ q.2.toInt)
  | [], p => ⟨.inl rfl, .inr ⟨rfl, le_rfl⟩, fun q hq => absurd hq List.not_mem_nil⟩
  | a :: l, p => by
    obtain ⟨h1, h2, h3⟩ := fold_least f hf l (f p a)
    have tr : ∀ x y z : EReal × BitVec 32, (x.1 < y.1 ∨ (x.1 = y.1 ∧ x.2.toInt ≤ y.2.toInt)) →
        (y.1 < z.1 ∨ (y.1 = z.1 ∧ y.2.toInt ≤ z.2.toInt)) → (x.1 < z.1 ∨ (x.1 = z.1 ∧ x.2.toInt ≤ z.2.toInt)) := by
      rintro x y z (h | ⟨h, h'⟩) (k | ⟨k, k'⟩)
      · exact .inl (h.trans k)
      · exact .inl (k ▸ h)
      · exact .inl (h ▸ k)
      · exact .inr ⟨h.trans k, h'.trans k'⟩
    have hp : (f p a = p ∨ f p a = a) ∧ ((f p a).1 < p.1 ∨ ((f p a).1 = p.1 ∧ (f p a).2.toInt ≤ p.2.toInt))
        ∧ ((f p a).1 < a.1 ∨ ((f p a).1 = a.1 ∧ (f p a).2.toInt ≤ a.2.toInt)) := by
      rw [hf]
      split_ifs with hc
      · exact ⟨.inl rfl, .inr ⟨rfl, le_rfl⟩, hc.imp id fun h => ⟨h.1, h.2.le⟩⟩
      · refine ⟨.inr rfl, ?_, .inr ⟨rfl, le_rfl⟩⟩
        rw [not_or, not_and, not_lt, not_lt] at hc
        rcases lt_or_eq_of_le hc.1 with h | h
        · exact .inl h
        · exact .inr ⟨h, hc.2 h.symm⟩
    rw [List.foldl_cons]
    refine ⟨?_, tr _ _ _ h2 hp.2.1, ?_⟩
    · rcases h1 with h | h
      · rw [h]; exact hp.1.imp id fun e' => by rw [e']; exact List.mem_cons_self
      · exact .inr (List.mem_cons_of_mem _ h)
    · intro q hq
      rcases List.mem_cons.1 hq with rfl | hq
      · exact tr _ _ _ h2 hp.2.2
      · exact h3 q hq

theorem toInt_small (k : ℕ) (h : k < 1024) : (BitVec.ofNat 32 k).toInt = k := by
  rw [BitVec.toInt_eq_toNat_of_lt (by rw [BitVec.toNat_ofNat]; omega), BitVec.toNat_ofNat, Nat.mod_eq_of_lt (by omega)]

/-- Over the pairs of a row's values and their indices, from an infinite value at index zero, that fold ends at the row's
    least index of a least value. -/
theorem fold_least_row (f : EReal × BitVec 32 → EReal × BitVec 32 → EReal × BitVec 32)
    (hf : ∀ a b, f a b = if a.1 < b.1 ∨ (a.1 = b.1 ∧ a.2.toInt < b.2.toInt) then a else b)
    (x : Fin 1024 → EReal) (n : Fin 1024) (h1 : ∀ k, x n ≤ x k) (h2 : ∀ k, k < n → x n < x k)
    (l : List (EReal × BitVec 32)) (hl : ∀ p, p ∈ l ↔ ∃ k : Fin 1024, p = (x k, BitVec.ofNat 32 k.val)) :
    (l.foldl f (⊤, 0#32)).2 = BitVec.ofNat 32 n.val := by
  obtain ⟨m1, -, m3⟩ := fold_least f hf l (⊤, 0#32)
  have hn := m3 _ ((hl _).2 ⟨n, rfl⟩)
  rcases m1 with e | e
  · rw [e] at hn ⊢
    have ht : x n = ⊤ := by
      rcases hn with h | h
      · exact absurd h not_top_lt
      · exact h.1.symm
    have h0 : n = 0 := by
      by_contra hne
      exact absurd (h2 0 (Fin.pos_of_ne_zero hne)) (by rw [ht]; exact not_top_lt)
    rw [h0]; rfl
  · obtain ⟨k, hk⟩ := (hl _).1 e
    rw [hk] at hn ⊢
    have hxk : x k = x n ∧ (BitVec.ofNat 32 k.val).toInt ≤ (BitVec.ofNat 32 n.val).toInt := by
      rcases hn with h | h
      · exact absurd h (not_lt.2 (h1 k))
      · exact h
    rw [toInt_small _ k.isLt, toInt_small _ n.isLt] at hxk
    have hle : k.val ≤ n.val := by exact_mod_cast hxk.2
    have : k = n := by
      by_contra hne
      have hlt : k < n := lt_of_le_of_ne hle hne
      exact absurd (h2 k hlt) (by rw [hxk.1]; exact lt_irrefl _)
    rw [this]

/-! ## Sums and differences -/

/-- A nonnegative real factor goes into a sum. -/
theorem mul_sum {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- Twice the products' sum is the sum of the doubled products. -/
theorem two_mul_sum (v : Tok) (b : Tok) : ((2 : ℝ) : EReal) * ∑ j, v j * b j = ∑ j, ((2 : ℝ) : EReal) * v j * b j := by
  rw [mul_sum _ _ _ (by norm_num)]; exact Finset.sum_congr rfl fun j _ => (mul_assoc _ _ _).symm

/-- A sum against a single one picks a term. -/
theorem sum_pick {K : ℕ} (n : Fin K) (c : Fin K → EReal) : ∑ k, (if k = n then (1 : EReal) else 0) * c k = c n := by
  rw [Finset.sum_eq_single n (fun k _ hk => by rw [if_neg hk, zero_mul]) (fun h => absurd (Finset.mem_univ _) h), if_pos rfl, one_mul]

/-- Taking off what a token moves by leaves the token less its codeword. -/
theorem sub_moved (r : EReal) (c : ℝ) : r - (r + ((c : EReal) - r)) = r - c := by
  induction r with
  | bot => rfl
  | top => rfl
  | coe r => norm_cast; ring

/-- What a token moves by in all layers together is what it loses. -/
theorem moved_total (v : ℕ → EReal) (c : ℕ → ℝ) (hv : ∀ q, v (q + 1) = v q - c q) (t : ℕ → EReal) (h0 : t 0 = 0)
    (ht : ∀ q, t (q + 1) = t q + (v q + ((c q : EReal) - v q))) (n : ℕ) (hn : 0 < n) : t n = v 0 - v n := by
  have key : (∃ a : ℝ, v 0 = a) ∨ v 0 = ⊤ ∨ v 0 = ⊥ := by
    generalize v 0 = z
    induction z with
    | bot => exact .inr (.inr rfl)
    | top => exact .inr (.inl rfl)
    | coe r => exact .inl ⟨r, rfl⟩
  rcases key with ⟨a, ha⟩ | ha | ha
  · have : ∀ n, ∃ r : ℝ, v n = r ∧ t n = ((a - r : ℝ) : EReal) := by
      intro n
      induction n with
      | zero => exact ⟨a, ha, by rw [h0, sub_self]; rfl⟩
      | succ n ih =>
        obtain ⟨r, e1, e2⟩ := ih
        refine ⟨r - c n, by rw [hv, e1]; norm_cast, ?_⟩
        rw [ht, e1, e2]; norm_cast; ring
    obtain ⟨r, e1, e2⟩ := this n
    rw [e2, e1, ha]; norm_cast
  · have hvn : ∀ n, v n = ⊤ := by
      intro n
      induction n with
      | zero => exact ha
      | succ n ih => rw [hv, ih]; rfl
    obtain ⟨k, rfl⟩ := Nat.exists_eq_succ_of_ne_zero hn.ne'
    show t (k + 1) = _
    rw [ht, hvn, hvn, hvn, show ((c k : EReal) - ⊤) = ⊥ from rfl, show (⊤ : EReal) + ⊥ = ⊥ from rfl, EReal.add_bot]; rfl
  · have hvn : ∀ n, v n = ⊥ := by
      intro n
      induction n with
      | zero => exact ha
      | succ n ih => rw [hv, ih]; rfl
    obtain ⟨k, rfl⟩ := Nat.exists_eq_succ_of_ne_zero hn.ne'
    show t (k + 1) = _
    rw [ht, hvn, hvn, hvn, EReal.bot_add, EReal.add_bot]; rfl

/-- Whether two codewords' numbers are equal. -/
theorem word_eq (k n : Fin 1024) : IntOp.cmpi .eq (BitVec.ofNat 32 k.val) (BitVec.ofNat 32 n.val) = if k = n then 1#1 else 0#1 := by
  have : (BitVec.ofNat 32 k.val == BitVec.ofNat 32 n.val) = decide (k = n) := by
    rw [Bool.eq_iff_iff, beq_iff_eq, decide_eq_true_iff]
    refine ⟨fun h => Fin.ext ?_, fun h => by rw [h]⟩
    have := congrArg BitVec.toNat h
    rw [BitVec.toNat_ofNat, BitVec.toNat_ofNat] at this
    have := k.isLt; have := n.isLt; omega
  show BitVec.ofBool (BitVec.ofNat 32 k.val == BitVec.ofNat 32 n.val) = _
  rw [this]
  by_cases h : k = n
  · rw [if_pos h, decide_eq_true h]; rfl
  · rw [if_neg h, decide_eq_false h]; rfl

end Cert.Quant
end
-- ==== Proof.KernelMeaning.lean ====
/- One layer of the kernel on a tile, read in the extended reals: its index is the nearest codeword's, its residual is the
   token less that codeword, its counts and sums are those of the tile's tokens. -/
module

public import proofs.«01_k».proof.Proof.Spec
public import proofs.«01_k».proof.Proof.BodyValues
public import Idealize.ShloMosaic.Lib.MatmulPlain
public import Idealize.ShloMosaic.Lib.ValueLayout
public import Idealize.ShloMosaic.Lib.ValueLayoutCasts
public import Idealize.ShloMosaic.Lib.IdealHost

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.ValueIdx

/-- A tile's token. -/
def tok (r : FVec Ideal S512x512 .f32) (a : Fin 512) : Tok := fun j => r (ix2 a j)
/-- A codebook with an axis of one, as its codewords. -/
def bk (b : Vec Ideal S1x1024x512 .f32) : Book := fun k j => b (ix3 0 k j)

theorem two_bits : Ideal.ofBits .f32 0x40000000#32 = ((2 : ℝ) : EReal) := by
  simp [Ideal.ofBits, Ideal.ieee, -EReal.coe_mul]; norm_num

variable (r : FVec Ideal S512x512 .f32) (b : Vec Ideal S1x1024x512 .f32)

theorem col_row {n m : ℕ} (x : (⟨2, ![n, 1]⟩ : Shape).Idx → EReal) (h : (⟨2, ![n, 1]⟩ : Shape).Broadcasts ⟨2, ![n, m]⟩) (a : Fin n) (k : Fin m) :
    broadcastTo ⟨2, ![n, m]⟩ x h (ix2 a k) = x (ix2 a 0) :=
  broadcastTo_apply x h _ _ fun ax => by
    match ax with
    | ⟨0, _⟩ =>
      show a.val = if n = 1 then 0 else a.val
      split
      · have := a.isLt; omega
      · rfl
    | ⟨1, _⟩ => rfl

/-- The tokens' squared norms. -/
theorem sqn_apply (a : Fin 512) (u : Fin 1) : k0_pay76 r (ix2 a u) = ∑ j, tok r a j * tok r a j := by
  unfold k0_pay76
  refine (shapeCast_a_a1_apply _ _ a u).trans ?_
  refine (Ideal.multiReduction_add_single _ _ _ _ _ _).trans ?_
  refine Finset.sum_congr rfl fun j _ => ?_
  have e : reduces_S512x512_S512.lift (ix1 a) j = ix2 a j := by
    funext ax; match ax with | ⟨0, _⟩ => rfl | ⟨1, _⟩ => rfl
  show r _ * r _ = _
  rw [e]; rfl

/-- The codewords' squared norms. -/
theorem nrm_apply (k : Fin 1024) (u : Fin 1) : k0_pay8 b (ix2 u k) = ∑ j, bk b k j * bk b k j := by
  unfold k0_pay8
  refine (shapeCast_a_1a_apply _ _ u k).trans ?_
  refine (Ideal.multiReduction_add_single _ _ _ _ _ _).trans ?_
  refine Finset.sum_congr rfl fun j _ => ?_
  have e : reduces_S1024x512_S1024.lift (ix1 k) j = ix2 k j := by
    funext ax; match ax with | ⟨0, _⟩ => rfl | ⟨1, _⟩ => rfl
  have e2 : k0_pay7 b (ix2 k j) = bk b k j := shapeCast_1ab_ab_apply _ _ _ _
  exact congrArg₂ (fun y z : EReal => y * z) ((congrArg (k0_pay7 b) e).trans e2) ((congrArg (k0_pay7 b) e).trans e2)

/-- The tokens' products with the codewords, doubled. -/
theorem two_apply (a : Fin 512) (k : Fin 1024) : two r b (ix2 a k) = ((2 : ℝ) : EReal) * ∑ j, tok r a j * bk b k j := by
  unfold two
  show Ideal.ofBits .f32 0x40000000#32 * _ = _
  rw [two_bits]
  refine congrArg (((2 : ℝ) : EReal) * ·) ?_
  refine (Ideal.matmul_transposedRhs_apply (M := 512) (K := 512) (N := 1024) none r _ _ a k).trans ?_
  show Ideal.ofBits .f32 0x00000000#32 + _ = _
  rw [Ideal.ofBits_zero_f32, zero_add]
  refine Finset.sum_congr rfl fun j _ => congrArg (r (ix2 a j) * ·) ?_
  exact shapeCast_1ab_ab_apply _ _ _ _

/-- The kernel's distances. -/
def dst : FVec Ideal S512x1024 .f32 :=
  addf (subf (broadcastTo S512x1024 (k0_pay76 r) broadcasts_S512x1_S512x1024) (two r b))
    (broadcastTo S512x1024 (shapeCast S1x1024 (shapeCast S1024 (k0_pay8 b) shapeCasts_S1x1024_S1024) shapeCasts_S1024_S1x1024) broadcasts_S1x1024_S512x1024)

theorem dst_apply (a : Fin 512) (k : Fin 1024) : dst r b (ix2 a k) = score (tok r a) (bk b) k := by
  unfold dst
  show broadcastTo S512x1024 (k0_pay76 r) broadcasts_S512x1_S512x1024 (ix2 a k) - two r b (ix2 a k) + broadcastTo S512x1024 _ broadcasts_S1x1024_S512x1024 (ix2 a k) = _
  rw [col_row, sqn_apply, two_apply, broadcastTo_1b_ab_apply, shapeCast_a_1a_apply, shapeCast_1a_a_apply, nrm_apply]
  rfl

theorem idx_eq : idx r b = reduceIndex (F := Ideal) .argMin 1 S512 (dst r b) reduces_S512x1024_S512 := by
  unfold idx k0_pay62 dst two k0_pay76
  simp only [pay60]

/-- The kernel's index is the nearest codeword's. -/
theorem idx_apply (a : Fin 512) : idx r b (ix1 a) = BitVec.ofNat 32 (near (tok r a) (bk b)).val := by
  rw [idx_eq]
  refine reduceIndex_row (A := 512) (K := 1024) reduces_S512x1024_S512 (dst r b) a _ (fun k => ?_) (fun k => ?_) (fun k hk => ?_)
  · funext ax; match ax with | ⟨0, _⟩ => rfl | ⟨1, _⟩ => rfl
  · rw [dst_apply, dst_apply]; exact near_le _ _ _
  · rw [dst_apply, dst_apply]; exact near_lt _ _ _ hk

/-- The one-hot row. -/
theorem hot_apply (a : Fin 512) (k : Fin 1024) : hot r b (ix2 a k) = if k = near (tok r a) (bk b) then (1 : EReal) else 0 := by
  have e : hot r b (ix2 a k) = ((((IntOp.cmpi .eq (lanes (ix2 a k))
      (broadcastTo S512x1024 (shapeCast S512x1 (idx r b) shapeCasts_S512_S512x1) broadcasts_S512x1_S512x1024 (ix2 a k))).setWidth 32).toInt : ℝ) : EReal) := rfl
  have e2 : broadcastTo S512x1024 (shapeCast S512x1 (idx r b) shapeCasts_S512_S512x1) broadcasts_S512x1_S512x1024 (ix2 a k) = BitVec.ofNat 32 (near (tok r a) (bk b)).val := by
    refine (broadcastTo_apply _ _ _ (ix2 a 0) fun ax => ?_).trans ((shapeCast_a_a1_apply _ _ a 0).trans (idx_apply r b a))
    match ax with | ⟨0, _⟩ => rfl | ⟨1, _⟩ => rfl
  rw [e, e2, show lanes (ix2 a k) = BitVec.ofNat 32 k.val from iota_single_apply _ _ _ _ _ _, word_eq]
  split_ifs
  · norm_num
  · norm_num

/-- The product of the one-hot rows with any codebook picks. -/
theorem pick_apply (c : Vec Ideal S1x1024x512 .bf16) (a : Fin 512) (j : Fin 512) :
    matmul (F := Ideal) (φ₂ := .bf16) dot_S512x1024_S1024x512_S512x512_1_0_0_1_n_n none (hot r b) (shapeCast S1024x512 c shapeCasts_S1x1024x512_S1024x512) (constant S512x512 .f32 0x00000000#32) (ix2 a j)
      = c (ix3 0 (near (tok r a) (bk b)) j) := by
  refine (Ideal.matmul_plain_apply (M := 512) (K := 1024) (N := 512) none (hot r b) _ _ a j).trans ?_
  show Ideal.ofBits .f32 0x00000000#32 + _ = _
  rw [Ideal.ofBits_zero_f32, zero_add]
  refine (Finset.sum_congr rfl fun k _ => ?_).trans (sum_pick (near (tok r a) (bk b)) fun k => c (ix3 0 k j))
  rw [hot_apply]
  exact congrArg (_ * ·) (shapeCast_1ab_ab_apply _ _ _ _)

theorem hi_apply (k : Fin 1024) (j : Fin 512) : k0_pay12 b (ix3 0 k j) = bk b k j := by
  unfold k0_pay12 k0_pay9
  exact (shapeCast_ab_1ab_apply _ _ _ _ _).trans (shapeCast_1ab_ab_apply _ _ _ _)

theorem mid_apply (k : Fin 1024) (j : Fin 512) : k0_pay13 b (ix3 0 k j) = bk b k j - bk b k j := by
  unfold k0_pay13 k0_pay11 k0_pay10
  refine (shapeCast_ab_1ab_apply _ _ _ _ _).trans ?_
  exact congrArg₂ (fun y z : EReal => y - z) (shapeCast_1ab_ab_apply _ _ _ _) (shapeCast_1ab_ab_apply _ _ _ _)

theorem lo_apply (k : Fin 1024) (j : Fin 512) : k0_pay14 b (ix3 0 k j) = (bk b k j - bk b k j) - (bk b k j - bk b k j) := by
  unfold k0_pay14 k0_pay11 k0_pay10
  refine (shapeCast_ab_1ab_apply _ _ _ _ _).trans ?_
  exact congrArg₂ (fun y z : EReal => y - z) (congrArg₂ (fun y z : EReal => y - z) (shapeCast_1ab_ab_apply _ _ _ _) (shapeCast_1ab_ab_apply _ _ _ _))
    (congrArg₂ (fun y z : EReal => y - z) (shapeCast_1ab_ab_apply _ _ _ _) (shapeCast_1ab_ab_apply _ _ _ _))

/-- The residual that the layer leaves, of a codebook of finite numbers. -/
theorem next_apply (hb : ∀ k j, ∃ x : ℝ, bk b k j = x) (a : Fin 512) : tok (next r b) a = step (tok r a) (bk b) := by
  funext j
  show next r b (ix2 a j) = r (ix2 a j) - bk b (near (tok r a) (bk b)) j
  refine congrArg (r (ix2 a j) - ·) ?_
  refine (congrArg₂ (fun y z : EReal => y + z) (congrArg₂ (fun y z : EReal => y + z) (pick_apply r b _ a j) (pick_apply r b _ a j)) (pick_apply r b _ a j)).trans ?_
  rw [hi_apply, mid_apply, lo_apply]
  obtain ⟨x, hx⟩ := hb (near (tok r a) (bk b)) j
  rw [hx]; norm_cast; ring

/-- The tile's counts of codeword `k`, added to those before. -/
theorem cnt_apply (w : Vec Ideal S1x1024 .f32) (k : Fin 1024) :
    cnt r b w (ix2 0 k) = w (ix2 0 k) + ∑ a : Fin 512, if k = near (tok r a) (bk b) then (1 : EReal) else 0 := by
  unfold cnt k0_pay67
  refine (shapeCast_a_1a_apply _ _ 0 k).trans ?_
  refine congrArg₂ (fun y z : EReal => y + z) (shapeCast_1a_a_apply _ _ k) ((shapeCast_1a_a_apply _ _ k).trans ?_)
  refine (slice2_axis0_apply 0 _ _ 0 k 0 rfl).trans ?_
  refine (Ideal.matmul_plain_apply (M := 8) (K := 512) (N := 1024) none _ _ _ _ k).trans ?_
  show Ideal.ofBits .f32 0x00000000#32 + _ = _
  rw [Ideal.ofBits_zero_f32, zero_add]
  refine Finset.sum_congr rfl fun a _ => ?_
  rw [hot_apply]
  show Ideal.ofBits .bf16 0x3F80#16 * _ = _
  rw [Ideal.ofBits_one_bf16, one_mul]

/-- The tile's sum of squares, added to the one before. -/
theorem sse_apply (w : Vec Ideal S1x128 .f32) (l : Fin 128) :
    sse r w (ix2 0 l) = w (ix2 0 l) + ∑ a : Fin 512, ∑ j, tok r a j * tok r a j := by
  unfold sse k0_pay77
  refine (shapeCast_a_1a_apply _ _ 0 l).trans ?_
  refine congrArg₂ (fun y z : EReal => y + z) (shapeCast_1a_a_apply _ _ l) ?_
  refine (Ideal.multiReduction_add_total _ 0x00000000#32 _ (by decide) (.inl rfl) rfl _).trans ?_
  refine (Equiv.sum_comp (Shape.reshapeEquiv shapeCasts_S512x1_S1x512x1) (k0_pay76 r)).trans ?_
  refine (sum_idx2 (n0 := 512) (n1 := 1) _).trans ?_
  refine Finset.sum_congr rfl fun a _ => ?_
  rw [Fin.sum_univ_one, sqn_apply]

/-- The same as the last layer writes it. -/
theorem sse'_apply (w : Vec Ideal S1x128 .f32) (l : Fin 128) :
    k0_pay2 r w (ix2 0 l) = w (ix2 0 l) + ∑ a : Fin 512, ∑ j, tok r a j * tok r a j := by
  unfold k0_pay2
  refine (shapeCast_a_1a_apply _ _ 0 l).trans ?_
  refine congrArg₂ (fun y z : EReal => y + z) (shapeCast_1a_a_apply _ _ l) ?_
  refine (Ideal.multiReduction_add_total _ 0x00000000#32 _ (by decide) (.inl rfl) rfl _).trans ?_
  refine (Equiv.sum_comp (Shape.reshapeEquiv shapeCasts_S512x512_S1x512x512) (mulf r r)).trans ?_
  exact sum_idx2 (n0 := 512) (n1 := 512) _

end Cert.KernelIdeal.Hand
end
-- ==== Proof.Totals.lean ====
/- The four results in plain terms: of all tokens and all layers. -/
module

public import proofs.«01_k».proof.Proof.Spec
public import Idealize.ShloMosaic.Lib.IdealHost

@[expose] public section

noncomputable section

namespace Cert.Quant

open Idealize.ShloMosaic

variable (X : Fin 8192 → Tok) (B : ℕ → Book)

/-- A token's quantised vector: what six layers take off it. -/
def outQ (T : Fin 8192) (j : Fin 512) : EReal := X T j - traj (X T) B 6 j
/-- A token's index in layer `q`. -/
def idxQ (q : ℕ) (T : Fin 8192) : BitVec 32 := BitVec.ofNat 32 (near (traj (X T) B q) (B q)).val
/-- The sum of squares that layer `q` leaves. -/
def sqQ (q : ℕ) : EReal := ∑ T, ∑ j, traj (X T) B (q + 1) j * traj (X T) B (q + 1) j
/-- How many tokens take codeword `k` in layer `q`, and their share. -/
def cntQ (q : ℕ) (k : Fin 1024) : EReal := ∑ T, if k = near (traj (X T) B q) (B q) then (1 : EReal) else 0
def shareQ (q : ℕ) (k : Fin 1024) : EReal := cntQ X B q k * ((1 / 8192 : ℝ) : EReal)
/-- Layer `q`'s loss; its perplexity. -/
def lossQ (q : ℕ) : EReal := sqQ X B q * ((1 / 4194304 : ℝ) : EReal)
def perpQ (q : ℕ) : EReal := Ideal.exp (-∑ k, shareQ X B q k * Ideal.log (shareQ X B q k + Ideal.ofBits .f32 0x2EDBE6FF#32))

/-- Six values' sum over six. -/
def mean6 (f : ℕ → EReal) : EReal := Ideal.div (f 0 + f 1 + f 2 + f 3 + f 4 + f 5) (Ideal.ofBits .f32 0x40C00000#32)

/-- A sum by tiles is the sum. -/
theorem regroup (n b N : ℕ) (hN : n * b = N) (G : Fin N → EReal) (hlt : ∀ (t : Fin n) (a : Fin b), t.val * b + a.val < N) :
    ∑ t, ∑ a, G ⟨t.val * b + a.val, hlt t a⟩ = ∑ T, G T := by
  subst hN
  rw [← Equiv.sum_comp finProdFinEquiv, Fintype.sum_prod_type]
  refine Finset.sum_congr rfl fun t _ => Finset.sum_congr rfl fun a _ => congrArg G (Fin.ext ?_)
  show t.val * b + a.val = a.val + b * t.val
  ring

/-- Eight values of which the last two are zero. -/
theorem sum8 (f : ℕ → EReal) : (∑ i : Fin 8, if i.val < 6 then f i.val else 0) = f 0 + f 1 + f 2 + f 3 + f 4 + f 5 := by
  rw [Fin.sum_univ_eight]
  simp

/-- A factor taken into a sum of six. -/
theorem six_mul (f : ℕ → EReal) (r : ℝ) (hr : 0 ≤ r) :
    (f 0 + f 1 + f 2 + f 3 + f 4 + f 5) * (r : EReal) = f 0 * r + f 1 * r + f 2 * r + f 3 * r + f 4 * r + f 5 * r := by
  have h : (0 : EReal) ≤ r := by exact_mod_cast hr
  simp only [EReal.right_distrib_of_nonneg_of_ne_top h (EReal.coe_ne_top r)]

theorem bits_share : Ideal.ofBits .f32 0x39000000#32 = ((1 / 8192 : ℝ) : EReal) := by
  simp [Ideal.ofBits, Ideal.ieee, -EReal.coe_mul]; norm_num
theorem bits_sq : Ideal.ofBits .f32 0x34800000#32 = ((1 / 4194304 : ℝ) : EReal) := by
  simp [Ideal.ofBits, Ideal.ieee, -EReal.coe_mul]; norm_num
theorem bits_tokens : Ideal.ofBits .f32 0x46000000#32 = ((8192 : ℝ) : EReal) := by
  simp [Ideal.ofBits, Ideal.ieee, -EReal.coe_mul]; norm_num
theorem bits_values : Ideal.ofBits .f32 0x4A800000#32 = ((4194304 : ℝ) : EReal) := by
  simp [Ideal.ofBits, Ideal.ieee, -EReal.coe_mul]; norm_num

end Cert.Quant
end
-- ==== Proof.KernelTotals.lean ====
/- The kernel's four results in the extended reals, of all tokens and all layers. -/
module

public import proofs.«01_k».proof.Proof.KernelReads
public import proofs.«01_k».proof.Proof.KernelMeaning
public import proofs.«01_k».proof.Proof.Totals

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.ValueIdx
open Idealize.SL Idealize.SL.Sem

/-! ## Residuals -/

/-- The kernel's residuals of a tile's token are what the layers leave of it. -/
theorem tok_resid (x : FVec Ideal S512x512 .f32) (B : Vec Ideal S6x1024x512 .f32) (hB : ∀ i, ∃ r : ℝ, B i = r) (a : Fin 512) :
    ∀ q, tok (resid x B q) a = traj (tok x a) (fun q => bk (bookOf B q)) q
  | 0 => rfl
  | q + 1 => by
    show tok (next (resid x B q) (bookOf B q)) a = step (traj (tok x a) (fun q => bk (bookOf B q)) q) (bk (bookOf B q))
    rw [next_apply (resid x B q) (bookOf B q) (fun k j => hB (ix3 (Fin.ofNat 6 q) k j)), tok_resid x B hB a q]

theorem ofNat_val (i : Fin 8) : Fin.ofNat 8 i.val = i := Fin.ext (Nat.mod_eq_of_lt i.isLt)

theorem zeros58 (y) : k0_pay58 (F := Ideal) y = (0 : EReal) := by
  show Ideal.ofBits .f32 0x00000000#32 = 0
  exact Ideal.ofBits_zero_f32
theorem zeros59 (y) : k0_pay59 (F := Ideal) y = (0 : EReal) := by
  show Ideal.ofBits .f32 0x00000000#32 = 0
  exact Ideal.ofBits_zero_f32

variable (m : (ℓ : Loc nD τ sig) → Buf (Elt Ideal) ℓ) (c : Dev nD)

/-- The tokens and the codebooks, as launched. -/
def X (T : Fin 8192) : Tok := fun j => tokens (F := Ideal) (m ((c : Thread nD τ).loc main_arg0)) (ix2 T j)
def Bk (q : ℕ) : Book := bk (bookOf (books m c) q)

theorem tok_tile (t : Fin cfg0.N) (a : Fin 512) : tok (tile m c t) a = X m c ⟨t.val * 512 + a.val, lt_all t a⟩ :=
  funext fun j => tile_apply m c t a j _ rfl

variable (hB : ∀ i, ∃ r : ℝ, books m c i = r)
include hB

theorem tok_at (t : Fin cfg0.N) (a : Fin 512) (q : ℕ) :
    tok (resid (tile m c t) (books m c) q) a = traj (X m c ⟨t.val * 512 + a.val, lt_all t a⟩) (Bk m c) q := by
  rw [tok_resid _ _ hB, tok_tile]; rfl

/-! ## Vectors and indices -/

theorem outArr_mean (T : Fin 8192) (j : Fin 512) : outArr m c (ix2 T j) = outQ (X m c) (Bk m c) T j := by
  have hT : T.val = (at_ T).val * 512 + (⟨T.val % 512, Nat.mod_lt _ (by norm_num)⟩ : Fin 512).val := by
    show T.val = T.val / 512 * 512 + T.val % 512; omega
  rw [outArr_apply m c _ _ j T hT]
  have e := congrFun (tok_at m c hB (at_ T) ⟨T.val % 512, Nat.mod_lt _ (by norm_num)⟩ 6) j
  have e0 := congrFun (tok_tile m c (at_ T) ⟨T.val % 512, Nat.mod_lt _ (by norm_num)⟩) j
  rw [show (⟨_, lt_all (at_ T) ⟨T.val % 512, Nat.mod_lt _ (by norm_num)⟩⟩ : Fin 8192) = T from Fin.ext hT.symm] at e e0
  exact congrArg₂ (fun y z : EReal => y - z) e0 e

theorem idxArr_mean (q : Fin 6) (T : Fin 8192) : idxArr m c (ix2 q T) = idxQ (X m c) (Bk m c) q.val T := by
  have hT : T.val = (at_ T).val * 512 + (⟨T.val % 512, Nat.mod_lt _ (by norm_num)⟩ : Fin 512).val := by
    show T.val = T.val / 512 * 512 + T.val % 512; omega
  rw [idxArr_apply m c _ q _ T hT]
  have e := tok_at m c hB (at_ T) ⟨T.val % 512, Nat.mod_lt _ (by norm_num)⟩ q.val
  rw [show (⟨_, lt_all (at_ T) ⟨T.val % 512, Nat.mod_lt _ (by norm_num)⟩⟩ : Fin 8192) = T from Fin.ext hT.symm] at e
  unfold idxQ
  rw [← e]
  exact (shapeCast_a_1a_apply _ _ 0 _).trans (idx_apply _ _ _)

/-! ## Counts and sums -/

theorem cnts_mean (i : Fin 8) (k : Fin 1024) : ∀ (n : ℕ) (h : n ≤ cfg0.N),
    cnts m c n h (ix2 i k) = if i.val < 6 then ∑ t : Fin n, ∑ a : Fin 512,
      (if k = near (traj (X m c ⟨t.val * 512 + a.val, lt_all ⟨t.val, lt_of_lt_of_le t.isLt h⟩ a⟩) (Bk m c) i.val) (Bk m c i.val) then (1 : EReal) else 0) else 0
  | 0, h => by
    rw [show cnts m c 0 h (ix2 i k) = 0 from zeros58 _]
    simp
  | n + 1, h => by
    show counted (tile m c ⟨n, h⟩) (books m c) (cnts m c n (Nat.le_of_succ_le h)) (ix2 i k) = _
    have ih := cnts_mean i k n (Nat.le_of_succ_le h)
    unfold counted
    show (if i.val < 6 then cntRow (tile m c ⟨n, h⟩) (books m c) i.val (rowOf (cnts m c n (Nat.le_of_succ_le h)) i.val) (ix2 0 k) else cnts m c n (Nat.le_of_succ_le h) (ix2 i k)) = _
    by_cases hi : i.val < 6
    · rw [if_pos hi, if_pos hi] at *
      unfold cntRow
      rw [cnt_apply]
      refine Eq.trans ?_ (Fin.sum_univ_castSucc (n := n) _).symm
      refine congrArg₂ (fun y z : EReal => y + z) ?_ ?_
      · show cnts m c n _ (ix2 (Fin.ofNat 8 i.val) k) = _
        rw [ofNat_val, ih]; rfl
      · refine Finset.sum_congr rfl fun a _ => ?_
        rw [tok_at m c hB]; rfl
    · rw [if_neg hi, if_neg hi] at *
      exact ih

theorem sses_mean (i : Fin 8) (l : Fin 128) : ∀ (n : ℕ) (h : n ≤ cfg0.N),
    sses m c n h (ix2 i l) = if i.val < 6 then ∑ t : Fin n, ∑ a : Fin 512, ∑ j,
      traj (X m c ⟨t.val * 512 + a.val, lt_all ⟨t.val, lt_of_lt_of_le t.isLt h⟩ a⟩) (Bk m c) (i.val + 1) j
        * traj (X m c ⟨t.val * 512 + a.val, lt_all ⟨t.val, lt_of_lt_of_le t.isLt h⟩ a⟩) (Bk m c) (i.val + 1) j else 0
  | 0, h => by
    rw [show sses m c 0 h (ix2 i l) = 0 from zeros59 _]
    simp
  | n + 1, h => by
    show summed (tile m c ⟨n, h⟩) (books m c) (sses m c n (Nat.le_of_succ_le h)) (ix2 i l) = _
    have ih := sses_mean i l n (Nat.le_of_succ_le h)
    unfold summed
    show (if i.val < 6 then sseRow (tile m c ⟨n, h⟩) (books m c) i.val (rowOf (sses m c n (Nat.le_of_succ_le h)) i.val) (ix2 0 l) else sses m c n (Nat.le_of_succ_le h) (ix2 i l)) = _
    by_cases hi : i.val < 6
    · rw [if_pos hi, if_pos hi] at *
      have e : sseRow (tile m c ⟨n, h⟩) (books m c) i.val (rowOf (sses m c n (Nat.le_of_succ_le h)) i.val) (ix2 0 l)
          = rowOf (sses m c n (Nat.le_of_succ_le h)) i.val (ix2 0 l)
            + ∑ a : Fin 512, ∑ j, tok (resid (tile m c ⟨n, h⟩) (books m c) (i.val + 1)) a j * tok (resid (tile m c ⟨n, h⟩) (books m c) (i.val + 1)) a j := by
        unfold sseRow
        by_cases h5 : i.val = 5
        · rw [if_pos h5, h5, sse'_apply]
        · rw [if_neg h5, sse_apply]
      rw [e]
      refine Eq.trans ?_ (Fin.sum_univ_castSucc (n := n) _).symm
      refine congrArg₂ (fun y z : EReal => y + z) ?_ ?_
      · show sses m c n _ (ix2 (Fin.ofNat 8 i.val) l) = _
        rw [ofNat_val, ih]; rfl
      · refine Finset.sum_congr rfl fun a _ => ?_
        rw [tok_at m c hB]; rfl
    · rw [if_neg hi, if_neg hi] at *
      exact ih

theorem cnts_all (i : Fin 8) (k : Fin 1024) : cnts m c cfg0.N le_rfl (ix2 i k) = if i.val < 6 then cntQ (X m c) (Bk m c) i.val k else 0 := by
  rw [cnts_mean m c hB]
  congr 1
  exact regroup cfg0.N 512 8192 (by rw [show cfg0.N = 16 from N_0]) (fun T => if k = near (traj (X m c T) (Bk m c) i.val) (Bk m c i.val) then (1 : EReal) else 0) lt_all
theorem sses_all (i : Fin 8) (l : Fin 128) : sses m c cfg0.N le_rfl (ix2 i l) = if i.val < 6 then sqQ (X m c) (Bk m c) i.val else 0 := by
  rw [sses_mean m c hB]
  congr 1
  exact regroup cfg0.N 512 8192 (by rw [show cfg0.N = 16 from N_0]) (fun T => ∑ j, traj (X m c T) (Bk m c) (i.val + 1) j * traj (X m c T) (Bk m c) (i.val + 1) j) lt_all

omit hB

/-! ## The last point's two values -/

/-- The mask of the rows in use. -/
theorem mask_apply (i : Fin 8) (u : Fin 1) : k0_pay4 (F := Ideal) (ix2 i u) = if i.val < 6 then (1 : EReal) else 0 := by
  have e : k0_pay4 (F := Ideal) (ix2 i u) = ((((IntOp.cmpi .slt (BitVec.ofNat 32 i.val) 6#32).setWidth 32).toInt : ℝ) : EReal) := by
    unfold k0_pay4
    show (((((IntOp.cmpi .slt (iota .tc S8x1 32 [0] iota_S8x1_d0_w32 (ix2 i u)) 6#32).setWidth 32).toInt : ℤ) : ℝ) : EReal) = _
    rw [iota_single_apply]
  rw [e]
  have : ∀ i : Fin 8, ((IntOp.cmpi .slt (BitVec.ofNat 32 i.val) 6#32).setWidth 32).toInt = if i.val < 6 then 1 else 0 := by decide
  rw [this]
  split <;> simp

/-- A sum over eight rows with an axis of one. -/
theorem total8 (f : FVec Ideal S8x1 .f32) :
    multiReduction (F := Ideal) .add [1, 2] S1 (shapeCast S1x8x1 f shapeCasts_S8x1_S1x8x1) 0x00000000#32 reduces_S1x8x1_S1 (.inl rfl) rfl (ix1 0)
      = ∑ i : Fin 8, f (ix2 i 0) := by
  refine (Ideal.multiReduction_add_total _ 0x00000000#32 _ (by decide) (.inl rfl) rfl _).trans ?_
  refine (Equiv.sum_comp (Shape.reshapeEquiv shapeCasts_S8x1_S1x8x1) f).trans ?_
  refine (sum_idx2 (n0 := 8) (n1 := 1) _).trans ?_
  exact Finset.sum_congr rfl fun i _ => Fin.sum_univ_one _

theorem loss_apply (S : Vec Ideal S8x128 .f32) (y) :
    k0_pay6 S y = Ideal.div ((∑ i : Fin 8, S (ix2 i 0) * (if i.val < 6 then (1 : EReal) else 0)) * ((1 / 4194304 : ℝ) : EReal)) (Ideal.ofBits .f32 0x40C00000#32) := by
  unfold k0_pay6
  show Ideal.div (multiReduction (F := Ideal) .add [1, 2] S1 _ 0x00000000#32 reduces_S1x8x1_S1 (.inl rfl) rfl _ * Ideal.ofBits .f32 0x34800000#32) _ = _
  rw [bits_sq]
  refine congrArg (fun z => Ideal.div (z * ((1 / 4194304 : ℝ) : EReal)) (Ideal.ofBits .f32 0x40C00000#32)) ?_
  refine (total8 _).trans (Finset.sum_congr rfl fun i _ => ?_)
  refine congrArg₂ (fun y z : EReal => y * z) ?_ (mask_apply i 0)
  exact congrArg S (funext fun ax => Fin.ext (by
    match ax with
    | ⟨0, _⟩ => exact Nat.zero_add _
    | ⟨1, _⟩ => exact Nat.zero_add _))

theorem perp_apply (C : Vec Ideal S8x1024 .f32) (y) :
    k0_pay5 C y = Ideal.div (∑ i : Fin 8, Ideal.exp (0 - ∑ k : Fin 1024, (C (ix2 i k) * ((1 / 8192 : ℝ) : EReal)) * Ideal.log (C (ix2 i k) * ((1 / 8192 : ℝ) : EReal) + Ideal.ofBits .f32 0x2EDBE6FF#32))
      * (if i.val < 6 then (1 : EReal) else 0)) (Ideal.ofBits .f32 0x40C00000#32) := by
  unfold k0_pay5
  show Ideal.div (multiReduction (F := Ideal) .add [1, 2] S1 _ 0x00000000#32 reduces_S1x8x1_S1 (.inl rfl) rfl _) _ = _
  refine congrArg (fun z => Ideal.div z (Ideal.ofBits .f32 0x40C00000#32)) ?_
  refine (total8 _).trans (Finset.sum_congr rfl fun i _ => ?_)
  refine congrArg₂ (fun y z : EReal => y * z) (congrArg Ideal.exp (congrArg₂ (fun y z : EReal => y - z) Ideal.ofBits_zero_f32 ?_)) (mask_apply i 0)
  refine (shapeCast_a_a1_apply _ _ i 0).trans ((Ideal.multiReduction_add_single _ _ _ _ _ _).trans (Finset.sum_congr rfl fun k _ => ?_))
  rw [show reduces_S8x1024_S8.lift (ix1 i) k = ix2 i k from funext fun ax => by match ax with | ⟨0, _⟩ => rfl | ⟨1, _⟩ => rfl]
  show (C (ix2 i k) * Ideal.ofBits .f32 0x39000000#32) * Ideal.log (C (ix2 i k) * Ideal.ofBits .f32 0x39000000#32 + Ideal.ofBits .f32 0x2EDBE6FF#32) = _
  rw [bits_share]

theorem cast1 (f : FVec Ideal S1x1 .f32) (v : EReal) (hf : ∀ z, f z = v) (y : S_.Idx) : shapeCast S_ f shapeCasts_S1x1_S_ y = v := hf _

include hB

theorem lossK_mean (y : S_.Idx) : (lossK m c y : EReal) = mean6 (lossQ (X m c) (Bk m c)) := by
  unfold lossK
  refine cast1 _ _ (fun z => (loss_apply _ z).trans ?_) y
  unfold mean6
  refine congrArg (fun z => Ideal.div z (Ideal.ofBits .f32 0x40C00000#32)) ?_
  have e : (∑ i : Fin 8, sses m c cfg0.N le_rfl (ix2 i 0) * (if i.val < 6 then (1 : EReal) else 0))
      = ∑ i : Fin 8, if i.val < 6 then sqQ (X m c) (Bk m c) i.val else 0 :=
    Finset.sum_congr rfl fun i _ => by
      rw [sses_all m c hB]; split <;> simp
  rw [e, sum8, six_mul _ _ (by norm_num)]
  rfl

theorem perpK_mean (y : S_.Idx) : (perpK m c y : EReal) = mean6 (perpQ (X m c) (Bk m c)) := by
  unfold perpK
  refine cast1 _ _ (fun z => (perp_apply _ z).trans ?_) y
  unfold mean6
  refine congrArg (fun z => Ideal.div z (Ideal.ofBits .f32 0x40C00000#32)) ?_
  rw [← sum8 (perpQ (X m c) (Bk m c))]
  refine Finset.sum_congr rfl fun i _ => ?_
  by_cases hi : i.val < 6
  · rw [if_pos hi, if_pos hi, mul_one, zero_sub]
    refine congrArg (fun z : EReal => Ideal.exp (-z)) (Finset.sum_congr rfl fun k _ => ?_)
    rw [cnts_all m c hB, if_pos hi]; rfl
  · rw [if_neg hi, if_neg hi, mul_zero]

end Cert.KernelIdeal.Hand

end
-- ==== Proof.RefMeaning.lean ====
/- One layer of the reference, read in the extended reals: its index is the nearest codeword's, its code that codeword, its
   counts and sums those of all tokens. -/
module

public import proofs.«01_k».proof.Proof.Spec
public import proofs.«01_k».proof.Proof.RefReads
public import Idealize.ShloMosaic.Lib.MatmulPlain
public import Idealize.ShloMosaic.Lib.StackMember
public import Idealize.ShloMosaic.Lib.ValueLayout
public import Idealize.ShloMosaic.Lib.ValueLayoutCasts
public import Idealize.ShloMosaic.Lib.IdealHost
public import Idealize.ShloMosaic.Lib.Routing.Ops

@[expose] public section

set_option maxRecDepth 16384

noncomputable section

namespace Cert.ReferenceIdeal.Hand

open Cert.Quant
open Idealize.ShloMosaic Idealize.ShloMosaic.ValueIdx Idealize.ShloMosaic.StableHlo Facts₀ Facts

attribute [local instance] Cert.ReferenceIdeal.Gen.facts Cert.Pre_finite_and_no_tie.Gen.facts

/-- A token among the rows. -/
def tok (x : FVec Ideal S8192x512 .f32) (T : Fin 8192) : Tok := fun j => x (ix2 T j)
/-- A codebook as its codewords. -/
def bk (b : FVec Ideal S1024x512 .f32) : Book := fun k j => b (ix2 k j)

theorem two_bits : Ideal.ofBits .f32 0x40000000#32 = ((2 : ℝ) : EReal) := by
  simp [Ideal.ofBits, Ideal.ieee, -EReal.coe_mul]; norm_num
theorem inf_bits : Ideal.ofBits .f32 0x7F800000#32 = ⊤ := by
  simp [Ideal.ofBits, Ideal.ieee]

/-! ## Layouts -/

theorem rows_apply (r : FVec Ideal S8x512x1024 .f32) (n : Fin 8) (l : Fin 1024) (T : Fin 8192) (hT : T.val = n.val * 1024 + l.val) (j : Fin 512) :
    rows r (ix2 T j) = r (ix3 n j l) := by
  unfold rows
  refine (shapeCast_apply _ _ _ (ix3 n l j) ?_).trans (transpose_ix3_021_apply _ _ _ _ _)
  rw [Shape.rowMajor_val_three, Shape.rowMajor_val_two]
  show (n.val * 1024 + l.val) * 512 + j.val = T.val * 512 + j.val
  rw [hT]

theorem moved_apply (x c : FVec Ideal S8192x512 .f32) (n : Fin 8) (l : Fin 1024) (T : Fin 8192) (hT : T.val = n.val * 1024 + l.val) (j : Fin 512) :
    moved x c (ix3 n j l) = x (ix2 T j) + (c (ix2 T j) - x (ix2 T j)) := by
  unfold moved
  refine (transpose_ix3_021_apply _ _ _ _ _).trans ?_
  refine (shapeCast_apply _ _ _ (ix2 T j) ?_)
  rw [Shape.rowMajor_val_three, Shape.rowMajor_val_two]
  show T.val * 512 + j.val = (n.val * 1024 + l.val) * 512 + j.val
  rw [hT]

/-- The tokens that a layer leaves, as rows. -/
theorem rows_sub_moved (r : FVec Ideal S8x512x1024 .f32) (x c : FVec Ideal S8192x512 .f32) (T : Fin 8192) (j : Fin 512) :
    rows (subf r (moved x c)) (ix2 T j) = rows r (ix2 T j) - (x (ix2 T j) + (c (ix2 T j) - x (ix2 T j))) := by
  have hT : T.val = (⟨T.val / 1024, by omega⟩ : Fin 8).val * 1024 + (⟨T.val % 1024, by omega⟩ : Fin 1024).val := by
    show T.val = T.val / 1024 * 1024 + T.val % 1024; omega
  rw [rows_apply _ _ _ T hT, rows_apply _ _ _ T hT]
  show r _ - moved x c _ = _
  rw [moved_apply _ _ _ _ T hT]

/-! ## Distances and the nearest codeword -/

variable (x : FVec Ideal S8192x512 .f32) (b : FVec Ideal S1024x512 .f32)

theorem dist_apply (T : Fin 8192) (k : Fin 1024) : dist x b (ix2 T k) = score (tok x T) (bk b) k := by
  unfold dist
  refine congrArg₂ (fun y z : EReal => y + z) (congrArg₂ (fun y z : EReal => y - z) ?_ ?_) ?_
  · refine (broadcastInDim_apply _ _ _ _ (ix2 T 0) fun ax => ?_).trans ((broadcastInDim_apply _ _ _ _ (ix1 T) fun ax => ?_).trans ?_)
    · match ax with | ⟨0, _⟩ => rfl | ⟨1, _⟩ => rfl
    · match ax with | ⟨0, _⟩ => rfl
    refine (Ideal.hostReduceAdd_single _ (by decide) _ _ _).trans ?_
    show Ideal.ofBits .f32 0x00000000#32 + _ = _
    rw [Ideal.ofBits_zero_f32, zero_add]
    refine Finset.sum_congr rfl fun j _ => ?_
    refine congrArg₂ (fun y z : EReal => y * z) (congrArg x ?_) (congrArg x ?_) <;>
      (funext ax; match ax with | ⟨0, _⟩ => rfl | ⟨1, _⟩ => rfl)
  · refine (StackMember.dotGeneral_plain_apply (m := 8192) (k := 512) (n := 1024) none _ _ T k).trans ?_
    rw [two_mul_sum]
    refine Finset.sum_congr rfl fun j _ => congrArg₂ (fun y z : EReal => y * z) ?_ (transpose_ix2_apply _ _ _ _)
    show Ideal.ofBits .f32 0x40000000#32 * _ = _
    rw [two_bits]; rfl
  · refine (broadcastInDim_apply _ _ _ _ (ix2 0 k) fun ax => ?_).trans ((broadcastInDim_apply _ _ _ _ (ix1 k) fun ax => ?_).trans ?_)
    · match ax with | ⟨0, _⟩ => rfl | ⟨1, _⟩ => rfl
    · match ax with | ⟨0, _⟩ => rfl
    refine (Ideal.hostReduceAdd_single _ (by decide) _ _ _).trans ?_
    show Ideal.ofBits .f32 0x00000000#32 + _ = _
    rw [Ideal.ofBits_zero_f32, zero_add]
    refine Finset.sum_congr rfl fun j _ => ?_
    refine congrArg₂ (fun y z : EReal => y * z) (congrArg b ?_) (congrArg b ?_) <;>
      (funext ax; match ax with | ⟨0, _⟩ => rfl | ⟨1, _⟩ => rfl)

/-- The reference's reducer keeps the lesser value, and of equal values the lesser index. -/
theorem reducer_eq (a b : EReal × BitVec 32) : reducer_argmin_f32_i32 (F := Ideal) a b
    = if a.1 < b.1 ∨ (a.1 = b.1 ∧ a.2.toInt < b.2.toInt) then a else b := by
  obtain ⟨a, i⟩ := a
  obtain ⟨b, k⟩ := b
  have h1 : (FloatOps.cmpf (F := Ideal) (φ := .f32) .olt a b) = BitVec.ofBool (decide (a < b)) := rfl
  have h2 : (FloatOps.cmpf (F := Ideal) (φ := .f32) .une a a) = 0#1 := by
    show BitVec.ofBool (decide (a ≠ a)) = _
    simp
  have h3 : (FloatOps.cmpf (F := Ideal) (φ := .f32) .oeq a b) = BitVec.ofBool (decide (a = b)) := rfl
  have h4 : IntOp.cmpi .slt i k = BitVec.ofBool (decide (i.toInt < k.toInt)) := rfl
  simp only [reducer_argmin_f32_i32, h1, h2, h3, h4]
  by_cases c1 : a < b
  · have c2 : ¬ a = b := ne_of_lt c1
    simp [c1, c2, Scalar.select, IntOp.ori, IntOp.andi]
  · by_cases c2 : a = b
    · subst c2
      by_cases c3 : i.toInt < k.toInt
      · simp [c3, Scalar.select, IntOp.ori, IntOp.andi]
      · simp [c3, Scalar.select, IntOp.ori, IntOp.andi]
    · simp [c1, c2, Scalar.select, IntOp.ori, IntOp.andi]

theorem drop_iff (T : Fin 8192) (i : S8192x1024.Idx) : reducesTo_S8192x1024_S8192_d1.drop i = ix1 T ↔ ∃ k : Fin 1024, i = ix2 T k := by
  constructor
  · intro h
    refine ⟨(i 1 : Fin 1024), ?_⟩
    have h0 : (i 0).val = T.val := congrArg Fin.val (congrFun h 0)
    funext ax
    match ax with
    | ⟨0, _⟩ => exact Fin.ext h0
    | ⟨1, _⟩ => rfl
  · rintro ⟨k, rfl⟩
    funext ax
    match ax with
    | ⟨0, _⟩ => rfl

theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]; exact decide_eq_true hi
    · rw [Equiv.symm_apply_apply]

/-- A row's pairs of value and index. -/
def pairs (d : FVec Ideal S8192x1024 .f32) (T : Fin 8192) : List (EReal × BitVec 32) :=
  Host.argReduceFiber d (iotaInDim S8192x1024 32 1) reducesTo_S8192x1024_S8192_d1 (ix1 T)

theorem mem_pairs (d : FVec Ideal S8192x1024 .f32) (T : Fin 8192) (p : EReal × BitVec 32) :
    p ∈ pairs d T ↔ ∃ k : Fin 1024, p = (d (ix2 T k), BitVec.ofNat 32 k.val) := by
  unfold pairs
  rw [mem_fiber]
  constructor
  · rintro ⟨i, hi, rfl⟩
    obtain ⟨k, rfl⟩ := (drop_iff T i).1 hi
    exact ⟨k, rfl⟩
  · rintro ⟨k, rfl⟩
    exact ⟨ix2 T k, (drop_iff T _).2 ⟨k, rfl⟩, rfl⟩

theorem nearest_def (d : FVec Ideal S8192x1024 .f32) : nearest d = fun j =>
    (Host.argReduce (reducer_argmin_f32_i32 (F := Ideal)) d (iotaInDim S8192x1024 32 1) (constant S_ .f32 0x7F800000#32) (constantI S_ 32 0#32)
      reducesTo_S8192x1024_S8192_d1 h_S_ j).2 := by
  delta nearest; rfl

theorem arg_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel)
    (a0 : EReal) (i0 : BitVec 32) (hix : ix (Shape.Idx.first hu) = a0) (hiy : iy (Shape.Idx.first hu) = i0)
    (g : t.Idx → BitVec 32) (hg : g = fun j => (Host.argReduce f x y ix iy h hu j).2) (j : t.Idx)
    (L : List (EReal × BitVec 32)) (hL : Host.argReduceFiber x y h j = L) :
    g j = (L.foldl f (a0, i0)).2 := by
  subst hix hiy hL hg
  beta_reduce
  rw [Ideal.argReduce_eq_reduce2, Host.reduce2_eq_foldl_fiber]

theorem nearest_fold (d : FVec Ideal S8192x1024 .f32) (T : Fin 8192) :
    nearest d (ix1 T) = ((pairs d T).foldl (reducer_argmin_f32_i32 (F := Ideal)) (⊤, 0#32)).2 :=
  arg_fold _ _ _ _ _ _ _ _ _ inf_bits rfl _ (nearest_def d) _ _ rfl

/-- The reference's index is the nearest codeword's. -/
theorem nearest_apply (T : Fin 8192) : nearest (dist x b) (ix1 T) = BitVec.ofNat 32 (near (tok x T) (bk b)).val := by
  have hp := mem_pairs (dist x b) T
  rw [nearest_fold]
  generalize pairs (dist x b) T = L at hp ⊢
  refine fold_least_row _ reducer_eq (fun k => dist x b (ix2 T k)) _ (fun k => ?_) (fun k hk => ?_) L hp
  · rw [dist_apply, dist_apply]; exact near_le _ _ _
  · rw [dist_apply, dist_apply]; exact near_lt _ _ _ hk

/-! ## The codes -/

theorem small_not_neg (n : Fin 1024) : IntOp.cmpi .slt (BitVec.ofNat 32 n.val) 0#32 = 0#1 := by
  show BitVec.ofBool (decide ((BitVec.ofNat 32 n.val).toInt < (0#32).toInt)) = _
  rw [toInt_small _ n.isLt, decide_eq_false (by simp)]; rfl
theorem small_ge (n : Fin 1024) : IntOp.cmpi .sge (BitVec.ofNat 32 n.val) 0#32 = 1#1 := by
  show BitVec.ofBool (decide ((0#32).toInt ≤ (BitVec.ofNat 32 n.val).toInt)) = _
  rw [toInt_small _ n.isLt, decide_eq_true (by simp)]; rfl
theorem small_le (n : Fin 1024) : IntOp.cmpi .sle (BitVec.ofNat 32 n.val) 1023#32 = 1#1 := by
  show BitVec.ofBool (decide ((BitVec.ofNat 32 n.val).toInt ≤ (1023#32).toInt)) = _
  rw [toInt_small _ n.isLt, decide_eq_true (by have := n.isLt; show (n.val : ℤ) ≤ 1023; omega)]; rfl

theorem starts_apply (i : IVec S8192 32) (T : Fin 8192) (u : Fin 1) (n : Fin 1024) (h : i (ix1 T) = BitVec.ofNat 32 n.val) :
    starts i (ix2 T u) = BitVec.ofNat 32 n.val := by
  unfold starts
  refine (broadcastInDim_apply _ _ _ _ (ix1 T) fun ax => ?_).trans ?_
  · match ax with | ⟨0, _⟩ => rfl
  show Scalar.select (IntOp.cmpi .slt (i (ix1 T)) 0#32) _ (i (ix1 T)) = _
  rw [h, small_not_neg]; rfl

theorem foldl_ones {ι : Type} (x : ι → BitVec 1) : ∀ (l : List ι), (∀ i ∈ l, x i = 1#1) → l.foldl (fun r i => IntOp.andi r (x i)) 1#1 = 1#1
  | [], _ => rfl
  | i :: l, h => by
    rw [List.foldl_cons, h i List.mem_cons_self]
    exact foldl_ones x l fun k hk => h k (List.mem_cons_of_mem _ hk)

/-- The code at an index inside the codebook. -/
theorem codes_apply (i : IVec S8192 32) (T : Fin 8192) (j : Fin 512) (n : Fin 1024) (h : i (ix1 T) = BitVec.ofNat 32 n.val) :
    codes b i (ix2 T j) = bk b n j := by
  unfold codes
  have hm : Host.reduce IntOp.andi
        (andi (cmpi .sge (starts i) (broadcastInDim S8192x1 ![] bcast_S_S8192x1 (constantI S_ 32 0#32)))
          (cmpi .sle (starts i) (broadcastInDim S8192x1 ![0, 1] bcast_S1x1_S8192x1_0_1
            (broadcastInDim S1x1 ![1] bcast_S1_S1x1_1 (constantI S1 32 1023#32)))))
        (constantI S_ 1 1#1) reducesTo_S8192x1_S8192_d1 h_S_ (ix1 T) = 1#1 := by
    rw [Host.reduce_eq_foldl]
    refine foldl_ones _ _ fun k hk => ?_
    have hd := of_decide_eq_true (List.mem_filter.1 hk).2
    have h0 : (k 0).val = T.val := congrArg Fin.val (congrFun hd 0)
    have e : k = ix2 T 0 := by
      funext ax
      match ax with
      | ⟨0, _⟩ => exact Fin.ext h0
      | ⟨1, _⟩ => exact Subsingleton.elim (α := Fin 1) _ _
    rw [e]
    show IntOp.andi (IntOp.cmpi .sge (starts i (ix2 T 0)) 0#32) (IntOp.cmpi .sle (starts i (ix2 T 0)) 1023#32) = _
    rw [starts_apply i T 0 n h, small_ge, small_le]; rfl
  have sel : ∀ (A : IVec S8192x512 1) (B C : FVec Ideal S8192x512 .f32) (v : EReal), A (ix2 T j) = 1#1 → B (ix2 T j) = v → select A B C (ix2 T j) = v := by
    intro A B C v h1 h2
    show Scalar.select (A (ix2 T j)) (B (ix2 T j)) _ = v
    rw [h1, h2]; rfl
  refine sel _ _ _ _ ((broadcastInDim_apply _ _ _ _ (ix1 T) fun ax => ?_).trans hm) ?_
  · match ax with | ⟨0, _⟩ => rfl
  exact Routing.gather_row (nb := 1024) (B := 512) (n := 8192) _ rfl rfl rfl rfl rfl b _ T j n (starts_apply i T 0 n h) (by norm_num)

end Cert.ReferenceIdeal.Hand
end
-- ==== Proof.RefTotals.lean ====
/- The reference's four results in the extended reals, of all tokens and all layers. -/
module

public import proofs.«01_k».proof.Proof.RefMeaning
public import proofs.«01_k».proof.Proof.Totals
public import Idealize.ShloMosaic.Lib.Pipeline.ValueKit.Tiles

@[expose] public section

set_option maxRecDepth 16384

noncomputable section

namespace Cert.ReferenceIdeal.Hand

open Cert.Quant
open Idealize.ShloMosaic Idealize.ShloMosaic.ValueIdx Idealize.ShloMosaic.StableHlo Facts₀ Facts

attribute [local instance] Cert.ReferenceIdeal.Gen.facts Cert.Pre_finite_and_no_tie.Gen.facts

/-! ## One layer's counts, perplexity and loss -/

theorem hot_apply (i : IVec S8192 32) (T : Fin 8192) (k n : Fin 1024) (h : i (ix1 T) = BitVec.ofNat 32 n.val) :
    (hot i (ix2 T k) : Ideal .f32) = if k = n then (1 : EReal) else 0 := by
  have e1 : broadcastInDim S8192x1024 ![0, 1] bcast_S8192x1_S8192x1024_0_1 (broadcastInDim S8192x1 ![0] bcast_S8192_S8192x1_0 i) (ix2 T k) = BitVec.ofNat 32 n.val := by
    refine (broadcastInDim_apply _ _ _ _ (ix2 T 0) fun ax => ?_).trans ((broadcastInDim_apply _ _ _ _ (ix1 T) fun ax => ?_).trans h)
    · match ax with | ⟨0, _⟩ => rfl | ⟨1, _⟩ => rfl
    · match ax with | ⟨0, _⟩ => rfl
  have e2 : broadcastInDim S8192x1024 ![0, 1] bcast_S1x1024_S8192x1024_0_1 (iotaInDim S1x1024 32 1) (ix2 T k) = BitVec.ofNat 32 k.val := by
    refine (broadcastInDim_apply _ _ _ _ (ix2 0 k) fun ax => ?_).trans rfl
    match ax with | ⟨0, _⟩ => rfl | ⟨1, _⟩ => rfl
  have e : (hot i (ix2 T k) : Ideal .f32) = (((IntOp.cmpi .eq
      (broadcastInDim S8192x1024 ![0, 1] bcast_S8192x1_S8192x1024_0_1 (broadcastInDim S8192x1 ![0] bcast_S8192_S8192x1_0 i) (ix2 T k))
      (broadcastInDim S8192x1024 ![0, 1] bcast_S1x1024_S8192x1024_0_1 (iotaInDim S1x1024 32 1) (ix2 T k))).toNat : ℝ) : EReal) := rfl
  rw [e, e1, e2, word_eq]
  by_cases hk : n = k
  · rw [if_pos hk, if_pos hk.symm]; simp
  · rw [if_neg hk, if_neg fun e => hk e.symm]; simp

theorem share_apply (h : FVec Ideal S8192x1024 .f32) (k : Fin 1024) : share h (ix1 k) = (∑ T : Fin 8192, h (ix2 T k)) * ((1 / 8192 : ℝ) : EReal) := by
  have e : Host.reduceAdd h (constant S_ .f32 0x00000000#32) reducesTo_S8192x1024_S1024_d0 h_S_ (ix1 k) = ∑ T : Fin 8192, h (ix2 T k) := by
    refine (Ideal.hostReduceAdd_single _ (by decide) _ _ _).trans ?_
    show Ideal.ofBits .f32 0x00000000#32 + _ = _
    rw [Ideal.ofBits_zero_f32, zero_add]
    refine Finset.sum_congr rfl fun T _ => congrArg h ?_
    funext ax; match ax with | ⟨0, _⟩ => rfl | ⟨1, _⟩ => rfl
  unfold share
  show Ideal.div (Host.reduceAdd h (constant S_ .f32 0x00000000#32) reducesTo_S8192x1024_S1024_d0 h_S_ (ix1 k)) (Ideal.ofBits .f32 0x46000000#32) = _
  rw [e, bits_tokens, Ideal.div_coe (by norm_num)]

/-- A sum over the positions of an array of one axis. -/
theorem sum_row {n : ℕ} (f : (⟨1, ![n]⟩ : Shape).Idx → EReal) : ∑ i, f i = ∑ k : Fin n, f (ix1 k) :=
  (Fintype.sum_equiv ⟨fun k : Fin n => (ix1 k : (⟨1, ![n]⟩ : Shape).Idx), fun i => i 0, fun _ => rfl,
    fun i => funext fun ax => by match ax with | ⟨0, _⟩ => rfl⟩ _ _ fun _ => rfl).symm

theorem perp_apply (p : FVec Ideal S1024 .f32) (y : S_.Idx) :
    (perp p y : Ideal .f32) = Ideal.exp (-∑ k : Fin 1024, p (ix1 k) * Ideal.log (p (ix1 k) + Ideal.ofBits .f32 0x2EDBE6FF#32)) := by
  unfold perp
  refine congrArg (fun z : EReal => Ideal.exp (-z)) ?_
  refine (Ideal.hostReduceAdd_total _ (fun b => b.elim0) _ _ _).trans ?_
  show Ideal.ofBits .f32 0x00000000#32 + _ = _
  rw [Ideal.ofBits_zero_f32, zero_add]
  exact sum_row _

theorem commit_apply (x c : FVec Ideal S8192x512 .f32) (y : S_.Idx) :
    (commit x c y : Ideal .f32) = (∑ T : Fin 8192, ∑ j : Fin 512, (x (ix2 T j) - c (ix2 T j)) * (x (ix2 T j) - c (ix2 T j))) * ((1 / 4194304 : ℝ) : EReal) := by
  have e : Host.reduceAdd (mulf (subf x c) (subf x c)) (constant S_ .f32 0x00000000#32) reducesTo_S8192x512_S_d0_1 h_S_ y
      = ∑ T : Fin 8192, ∑ j : Fin 512, (x (ix2 T j) - c (ix2 T j)) * (x (ix2 T j) - c (ix2 T j)) := by
    refine (Ideal.hostReduceAdd_total _ (fun b => b.elim0) _ _ _).trans ?_
    show Ideal.ofBits .f32 0x00000000#32 + _ = _
    rw [Ideal.ofBits_zero_f32, zero_add]
    exact sum_idx2 (n0 := 8192) (n1 := 512) _
  unfold commit
  show Ideal.div (Host.reduceAdd (mulf (subf x c) (subf x c)) (constant S_ .f32 0x00000000#32) reducesTo_S8192x512_S_d0_1 h_S_ y) (Ideal.ofBits .f32 0x4A800000#32) = _
  rw [e, bits_values, Ideal.div_coe (by norm_num)]

/-! ## The residuals -/

variable (x : FVec Ideal S8x512x1024 .f32) (b : FVec Ideal S6x1024x512 .f32)

theorem book_finite (hf : ∀ i, ∃ r : ℝ, b i = r) : ∀ (q : ℕ) (k : Fin 1024) (j : Fin 512), ∃ r : ℝ, bk (book b q) k j = r
  | 0, _, _ => hf _
  | 1, _, _ => hf _
  | 2, _, _ => hf _
  | 3, _, _ => hf _
  | 4, _, _ => hf _
  | _ + 5, _, _ => hf _

/-- The codeword that a layer takes for a token. -/
def code (q : ℕ) (T : Fin 8192) : Fin 1024 := near (tok (rows (res x b q)) T) (bk (book b q))

theorem layIdx_apply (q : ℕ) (T : Fin 8192) : layIdx (res x b q) (book b q) (ix1 T) = BitVec.ofNat 32 (code x b q T).val :=
  nearest_apply _ _ T

theorem code_apply (q : ℕ) (T : Fin 8192) (j : Fin 512) :
    codes (book b q) (layIdx (res x b q) (book b q)) (ix2 T j) = bk (book b q) (code x b q T) j :=
  codes_apply _ _ T j _ (layIdx_apply x b q T)

variable (hf : ∀ i, ∃ r : ℝ, b i = r)
include hf

theorem res_succ (q : ℕ) (T : Fin 8192) (j : Fin 512) :
    rows (res x b (q + 1)) (ix2 T j) = rows (res x b q) (ix2 T j) - bk (book b q) (code x b q T) j := by
  show rows (subf (res x b q) (moved (rows (res x b q)) (codes (book b q) (layIdx (res x b q) (book b q))))) (ix2 T j) = _
  rw [rows_sub_moved, code_apply]
  obtain ⟨r, hr⟩ := book_finite b hf q (code x b q T) j
  rw [hr]
  exact sub_moved _ _

variable (X : Fin 8192 → Tok) (B : ℕ → Book) (hX : ∀ T, tok (rows x) T = X T) (hB : ∀ q < 6, bk (book b q) = B q)
include hX hB

theorem tok_res (T : Fin 8192) : ∀ q ≤ 6, tok (rows (res x b q)) T = traj (X T) B q
  | 0, _ => hX T
  | q + 1, h => by
    have ih := tok_res T q (Nat.le_of_succ_le h)
    funext j
    refine (res_succ x b hf q T j).trans ?_
    unfold code
    rw [ih, hB q h]
    exact congrArg (fun z : EReal => z - _) (congrFun ih j)

theorem code_eq (q : ℕ) (h : q < 6) (T : Fin 8192) : code x b q T = near (traj (X T) B q) (B q) := by
  unfold code
  rw [tok_res x b hf X B hX hB T q h.le, hB q h]

/-! ## The four results -/

theorem outR_mean (n : Fin 8) (j : Fin 512) (l : Fin 1024) (T : Fin 8192) (hT : T.val = n.val * 1024 + l.val) :
    outR x b (ix3 n j l) = outQ X B T j := by
  choose c hc using fun q => book_finite b hf q (code x b q T) j
  have h := moved_total (fun q => rows (res x b q) (ix2 T j)) c (fun q => (res_succ x b hf q T j).trans (by rw [hc]))
    (fun q => total (broadcastInDim S8x512x1024 ![] bcast_S_S8x512x1024 (constant (F := Ideal) S_ .f32 0x00000000#32)) (fun q => layOut (res x b q) (book b q)) q (ix3 n j l))
    Ideal.ofBits_zero_f32 (fun q => congrArg (fun z : EReal => _ + z) ((moved_apply _ _ n l T hT j).trans (by rw [code_apply, hc]))) 6 (by norm_num)
  refine h.trans ?_
  exact congrArg₂ (fun y z : EReal => y - z) (congrFun (hX T) j) (congrFun (tok_res x b hf X B hX hB T 6 le_rfl) j)

theorem idxR1_mean (q : ℕ) (h : q < 6) (n : Fin 8) (l : Fin 1024) (u : Fin 1) (T : Fin 8192) (hT : T.val = n.val * 1024 + l.val) :
    idxR1 x b q (ix3 n l u) = idxQ X B q T := by
  unfold idxR1
  refine (broadcastInDim_apply _ _ _ _ (ix2 n l) fun ax => ?_).trans ?_
  · match ax with | ⟨0, _⟩ => rfl | ⟨1, _⟩ => rfl
  unfold layIdx2
  refine (shapeCast_apply _ _ _ (ix1 T) ?_).trans ((layIdx_apply x b q T).trans ?_)
  · rw [Shape.rowMajor_val_one, Shape.rowMajor_val_two]; exact hT
  · rw [code_eq x b hf X B hX hB q h]; rfl

/-- One layer's indices at the place that they take among all. -/
theorem piece (p : ℕ) (hp : p < 6) (n : Fin 8) (l : Fin 1024) (q : Fin 6) (T : Fin 8192) (hT : T.val = n.val * 1024 + l.val)
    (i : S8x1024x1.Idx) (h : q.val = p) (h0 : (i 0).val = n.val) (h1 : (i 1).val = l.val) : idxR1 x b p i = idxQ X B q.val T := by
  obtain ⟨n', l', u, rfl⟩ : ∃ (n' : Fin 8) (l' : Fin 1024) (u : Fin 1), i = ix3 n' l' u :=
    ⟨i 0, i 1, i 2, funext fun ax => by match ax with | ⟨0, _⟩ => rfl | ⟨1, _⟩ => rfl | ⟨2, _⟩ => rfl⟩
  rw [h]
  exact idxR1_mean x b hf X B hX hB p hp n' l' u T (by
    have e0 : n'.val = n.val := h0
    have e1 : l'.val = l.val := h1
    rw [e0, e1]; exact hT)

theorem idxR_mean (n : Fin 8) (l : Fin 1024) (q : Fin 6) (T : Fin 8192) (hT : T.val = n.val * 1024 + l.val) :
    idxR x b (ix3 n l q) = idxQ X B q.val T := by
  unfold idxR
  concat_tiles i h
  · exact piece x b hf X B hX hB 0 (by norm_num) n l q T hT i h h0 h1
  · exact piece x b hf X B hX hB 1 (by norm_num) n l q T hT i h h0 h1
  · exact piece x b hf X B hX hB 2 (by norm_num) n l q T hT i h h0 h1
  · exact piece x b hf X B hX hB 3 (by norm_num) n l q T hT i h h0 h1
  · exact piece x b hf X B hX hB 4 (by norm_num) n l q T hT i h h0 h1
  · exact piece x b hf X B hX hB 5 (by norm_num) n l q T hT i h h0 h1

theorem layLoss_mean (q : ℕ) (h : q < 6) (y : S_.Idx) : (layLoss (res x b q) (book b q) y : Ideal .f32) = lossQ X B q := by
  unfold layLoss lossQ sqQ
  rw [commit_apply]
  refine congrArg (fun z : EReal => z * _) (Finset.sum_congr rfl fun T _ => Finset.sum_congr rfl fun j _ => ?_)
  rw [code_apply, ← res_succ x b hf]
  exact congrArg₂ (fun y z : EReal => y * z) (congrFun (tok_res x b hf X B hX hB T (q + 1) h) j) (congrFun (tok_res x b hf X B hX hB T (q + 1) h) j)

theorem layPerp_mean (q : ℕ) (h : q < 6) (y : S_.Idx) : (layPerp (res x b q) (book b q) y : Ideal .f32) = perpQ X B q := by
  unfold layPerp perpQ
  rw [perp_apply]
  have e : ∀ k, (share (F := Ideal) (hot (layIdx (res x b q) (book b q))) (ix1 k) : Ideal .f32) = shareQ X B q k := fun k => by
    rw [share_apply]
    unfold shareQ cntQ
    refine congrArg (fun z : EReal => z * ((1 / 8192 : ℝ) : EReal)) (Finset.sum_congr rfl fun T _ => ?_)
    rw [hot_apply _ T k _ (layIdx_apply x b q T), code_eq x b hf X B hX hB q h]
  exact congrArg (fun s : Fin 1024 → EReal => Ideal.exp (-∑ k, s k * Ideal.log (s k + Ideal.ofBits .f32 0x2EDBE6FF#32))) (funext e)

omit hf hX hB
theorem six_apply (f : ℕ → FVec Ideal S_ .f32) (y : S_.Idx) :
    (Host.divf (total (constant S_ .f32 0x00000000#32) f 6) (constant S_ .f32 0x40C00000#32) y : Ideal .f32) = mean6 fun q => f q y := by
  show Ideal.div (Ideal.ofBits .f32 0x00000000#32 + f 0 y + f 1 y + f 2 y + f 3 y + f 4 y + f 5 y) _ = _
  rw [Ideal.ofBits_zero_f32, zero_add]; rfl

theorem mean6_congr (f g : ℕ → EReal) (h : ∀ q < 6, f q = g q) : mean6 f = mean6 g := by
  unfold mean6
  rw [h 0 (by norm_num), h 1 (by norm_num), h 2 (by norm_num), h 3 (by norm_num), h 4 (by norm_num), h 5 (by norm_num)]

include hf hX hB
theorem lossR_mean (y : S_.Idx) : (lossR x b y : Ideal .f32) = mean6 (lossQ X B) := by
  unfold lossR
  rw [six_apply]
  exact mean6_congr _ _ fun q h => layLoss_mean x b hf X B hX hB q h y

theorem perpR_mean (y : S_.Idx) : (perpR x b y : Ideal .f32) = mean6 (perpQ X B) := by
  unfold perpR
  rw [six_apply]
  exact mean6_congr _ _ fun q h => layPerp_mean x b hf X B hX hB q h y

end Cert.ReferenceIdeal.Hand
end
-- ==== Proof.Algebraic.lean ====
/- The kernel's four results are the reference's, in the extended reals. -/
module

public import proofs.«01_k».proof.Proof.KernelTotals
public import proofs.«01_k».proof.Proof.RefTotals
public import proofs.«01_k».proof.Proof.Gen.Pre_finite_and_no_tie

@[expose] public section

set_option maxRecDepth 16384

noncomputable section

/-! ## What the precondition says of the codebooks -/

namespace Cert.Pre_finite_and_no_tie.Hand

open Idealize.ShloMosaic Idealize.ShloMosaic.ValueIdx Cert.Pre_finite_and_no_tie Facts

attribute [local instance] Cert.Pre_finite_and_no_tie.Gen.facts

theorem and_one : ∀ a b : BitVec 1, IntOp.andi a b = 1#1 → a = 1#1 ∧ b = 1#1 := by decide

/-- Bits whose conjunction holds all hold. -/
theorem all_one {ι : Type} (x : ι → BitVec 1) : ∀ (l : List ι) (v : BitVec 1), l.foldl (fun r i => IntOp.andi r (x i)) v = 1#1 → v = 1#1 ∧ ∀ i ∈ l, x i = 1#1
  | [], _, h => ⟨h, fun _ hi => absurd hi List.not_mem_nil⟩
  | i :: l, v, h => by
    obtain ⟨h1, h2⟩ := all_one x l _ h
    obtain ⟨hv, hx⟩ := and_one _ _ h1
    refine ⟨hv, fun k hk => ?_⟩
    rcases List.mem_cons.1 hk with rfl | hk
    · exact hx
    · exact h2 k hk

/-- A number of absolute value less than infinity is a real. -/
theorem real_of_bounded (v : EReal) (h : FloatOps.cmpf (F := Ideal) (φ := .f32) .olt (max v (-v) : EReal) (⊤ : EReal) = 1#1) : ∃ r : ℝ, v = r := by
  have h' : BitVec.ofBool (decide (max v (-v) < ⊤)) = 1#1 := h
  have hlt : max v (-v) < ⊤ := by
    by_contra hn
    rw [decide_eq_false hn] at h'
    exact absurd h' (by decide)
  have h1 : v ≠ ⊤ := ((le_max_left _ _).trans_lt hlt).ne
  have h2 : v ≠ ⊥ := fun e => ((le_max_right _ _).trans_lt hlt).ne (by rw [e]; rfl)
  exact ⟨v.toReal, (EReal.coe_toReal h1 h2).symm⟩

/-- Every codebook entry's absolute value is less than infinity, entry by entry. -/
def bounded (b : FVec Ideal S6x1024x512 .f32) : IVec S6x1024x512 1 :=
  cmpf .olt (Host.absf b) (broadcastInDim S6x1024x512 ![] bcast_S_S6x1024x512 (constant S_ .f32 0x7F800000#32))

theorem fn_left (x : FVec Ideal S8x512x1024 .f32) (b : FVec Ideal S6x1024x512 .f32) :
    ∃ ties : IVec S_ 1, fn x b = andi (Host.reduce IntOp.andi (bounded b) (constantI S_ 1 1#1) reducesTo_S6x1024x512_S_d0_1_2 h_S_) ties :=
  ⟨_, rfl⟩

/-- Under the precondition every codebook entry is a real. -/
theorem finite (x : FVec Ideal S8x512x1024 .f32) (b : FVec Ideal S6x1024x512 .f32) (h : fn x b = fun _ => 1#1) (i : S6x1024x512.Idx) :
    ∃ r : ℝ, b i = r := by
  obtain ⟨ties, e⟩ := fn_left x b
  have h1 := (and_one _ _ (congrFun (e.symm.trans h) (fun a => a.elim0))).1
  rw [Host.reduce_eq_foldl] at h1
  have h2 := (all_one _ _ _ h1).2 i (List.mem_filter.2 ⟨List.mem_map.2 ⟨S6x1024x512.rowMajor i, List.mem_finRange _, S6x1024x512.rowMajor.symm_apply_apply i⟩, decide_eq_true (funext fun a => a.elim0)⟩)
  have h3 : FloatOps.cmpf (F := Ideal) (φ := .f32) .olt (max (b i) (-(b i)) : EReal) (Ideal.ofBits .f32 0x7F800000#32) = 1#1 := h2
  have hi : Ideal.ofBits .f32 0x7F800000#32 = ⊤ := by simp [Ideal.ofBits, Ideal.ieee]
  rw [hi] at h3
  exact real_of_bounded (b i) h3

end Cert.Pre_finite_and_no_tie.Hand

/-! ## The results -/

namespace Cert.Equal

open Cert.Quant Cert.KernelIdeal
open Idealize.ShloMosaic Idealize.ShloMosaic.TcCoe Idealize.ShloMosaic.ValueIdx

attribute [local instance] Cert.KernelIdeal.Gen.facts Cert.ReferenceIdeal.Gen.facts Cert.Pre_finite_and_no_tie.Gen.facts

variable (m : (ℓ : Loc nD τ sig) → Buf (Elt Ideal) ℓ) (c : Dev nD)
variable (x : FVec Ideal S8x512x1024 .f32) (b : FVec Ideal S6x1024x512 .f32)

/-- A codebook cut from the stack of six. -/
theorem cut_apply (p : Fin 6) (h : S6x1024x512.Slices ![p.val, 0, 0] Cert.ReferenceIdeal.S1x1024x512)
    (h' : Cert.ReferenceIdeal.S1x1024x512.ShapeCasts Cert.ReferenceIdeal.S1024x512) (k : Fin 1024) (j : Fin 512) :
    shapeCast Cert.ReferenceIdeal.S1024x512 (extractStridedSlice Cert.ReferenceIdeal.S1x1024x512 ![p.val, 0, 0] b h) h' (ix2 k j) = b (ix3 p k j) := by
  refine (shapeCast_1ab_ab_apply (a := 1024) (b := 512) _ _ k j).trans (congrArg b (funext fun ax => ?_))
  match ax with
  | ⟨0, _⟩ => exact Fin.ext (Nat.add_zero _)
  | ⟨1, _⟩ => exact Fin.ext (Nat.zero_add _)
  | ⟨2, _⟩ => exact Fin.ext (Nat.zero_add _)

open Cert.ReferenceIdeal.Facts₀ Cert.ReferenceIdeal.Facts in
/-- A layer's codebook, as the reference cuts it and as the kernel reads it. -/
theorem book_same (q : ℕ) (h : q < 6) : Cert.ReferenceIdeal.Hand.bk (Cert.ReferenceIdeal.Hand.book b q) = Cert.KernelIdeal.Hand.bk (Cert.KernelIdeal.Hand.bookOf b q) := by
  funext k j
  match q, h with
  | 0, _ => exact cut_apply b 0 slices_S6x1024x512_S1x1024x512_0_0_0 shapeCasts_S1x1024x512_S1024x512 k j
  | 1, _ => exact cut_apply b 1 slices_S6x1024x512_S1x1024x512_1_0_0 shapeCasts_S1x1024x512_S1024x512 k j
  | 2, _ => exact cut_apply b 2 slices_S6x1024x512_S1x1024x512_2_0_0 shapeCasts_S1x1024x512_S1024x512 k j
  | 3, _ => exact cut_apply b 3 slices_S6x1024x512_S1x1024x512_3_0_0 shapeCasts_S1x1024x512_S1024x512 k j
  | 4, _ => exact cut_apply b 4 slices_S6x1024x512_S1x1024x512_4_0_0 shapeCasts_S1x1024x512_S1024x512 k j
  | 5, _ => exact cut_apply b 5 slices_S6x1024x512_S1x1024x512_5_0_0 shapeCasts_S1x1024x512_S1024x512 k j

/-- A position of `[8, 1024]` among the tokens. -/
def flat (n : Fin 8) (l : Fin 1024) : Fin 8192 := ⟨n.val * 1024 + l.val, by omega⟩

theorem outK_apply (n : Fin 8) (j : Fin 512) (l : Fin 1024) : Hand.outK m c (ix3 n j l) = Hand.outArr m c (ix2 (flat n l) j) := by
  unfold Hand.outK
  refine (transpose_ix3_021_apply _ _ _ _ _).trans ?_
  refine (shapeCast_apply _ _ _ (ix2 (flat n l) j) ?_)
  rw [Shape.rowMajor_val_three, Shape.rowMajor_val_two]; rfl

theorem idxK_apply (n : Fin 8) (l : Fin 1024) (q : Fin 6) : Hand.idxK m c (ix3 n l q) = Hand.idxArr m c (ix2 q (flat n l)) := by
  unfold Hand.idxK
  refine (shapeCast_apply _ _ _ (ix2 (flat n l) q) ?_).trans (transpose_ix2_apply _ _ _ _)
  rw [Shape.rowMajor_val_three, Shape.rowMajor_val_two]; rfl

variable (hx : m ((c : Thread nD τ).loc main_arg0) = x) (hb : m ((c : Thread nD τ).loc main_arg1) = b) (hf : ∀ i, ∃ r : ℝ, b i = r)
include hx hb hf

theorem books_finite : ∀ i, ∃ r : ℝ, Hand.books m c i = r := by rw [Hand.books_eq, hb]; exact hf
theorem tok_same (T : Fin 8192) : Cert.ReferenceIdeal.Hand.tok (Cert.ReferenceIdeal.Hand.rows x) T = Hand.X m c T := by
  unfold Hand.X; rw [hx]; rfl
theorem bk_same (q : ℕ) (h : q < 6) : Cert.ReferenceIdeal.Hand.bk (Cert.ReferenceIdeal.Hand.book b q) = Hand.Bk m c q := by
  unfold Hand.Bk; rw [Hand.books_eq, hb]; exact book_same b q h

/-- The quantised vectors. -/
theorem out_same : Hand.outK m c = Cert.ReferenceIdeal.Hand.outR x b := by
  funext y
  obtain ⟨n, j, l, rfl⟩ : ∃ (n : Fin 8) (j : Fin 512) (l : Fin 1024), y = ix3 n j l :=
    ⟨y 0, y 1, y 2, funext fun ax => by match ax with | ⟨0, _⟩ => rfl | ⟨1, _⟩ => rfl | ⟨2, _⟩ => rfl⟩
  rw [outK_apply, Hand.outArr_mean m c (books_finite m c x b hx hb hf)]
  exact (Cert.ReferenceIdeal.Hand.outR_mean x b hf _ _ (tok_same m c x b hx hb hf) (bk_same m c x b hx hb hf) n j l (flat n l) rfl).symm

/-- The indices. -/
theorem idx_same : Hand.idxK m c = Cert.ReferenceIdeal.Hand.idxR x b := by
  funext y
  obtain ⟨n, l, q, rfl⟩ : ∃ (n : Fin 8) (l : Fin 1024) (q : Fin 6), y = ix3 n l q :=
    ⟨y 0, y 1, y 2, funext fun ax => by match ax with | ⟨0, _⟩ => rfl | ⟨1, _⟩ => rfl | ⟨2, _⟩ => rfl⟩
  rw [idxK_apply, Hand.idxArr_mean m c (books_finite m c x b hx hb hf)]
  exact (Cert.ReferenceIdeal.Hand.idxR_mean x b hf _ _ (tok_same m c x b hx hb hf) (bk_same m c x b hx hb hf) n l q (flat n l) rfl).symm

/-- The mean loss. -/
theorem loss_same : Hand.lossK m c = Cert.ReferenceIdeal.Hand.lossR x b := by
  funext y
  exact (Hand.lossK_mean m c (books_finite m c x b hx hb hf) y).trans
    (Cert.ReferenceIdeal.Hand.lossR_mean x b hf _ _ (tok_same m c x b hx hb hf) (bk_same m c x b hx hb hf) y).symm

/-- The mean perplexity. -/
theorem perp_same : Hand.perpK m c = Cert.ReferenceIdeal.Hand.perpR x b := by
  funext y
  exact (Hand.perpK_mean m c (books_finite m c x b hx hb hf) y).trans
    (Cert.ReferenceIdeal.Hand.perpR_mean x b hf _ _ (tok_same m c x b hx hb hf) (bk_same m c x b hx hb hf) y).symm

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_and_no_tie
public import proofs.«01_k».proof.Proof.RunKernel
public import proofs.«01_k».proof.Proof.RunKernelIdeal
public import proofs.«01_k».proof.Proof.RefReads
public import proofs.«01_k».proof.Proof.Algebraic

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_and_no_tie.Gen.facts

/-- The kernel at its own formats: it runs, keeps its arguments and ends quiescent. -/
theorem frame_kernel : Cert.quiescent_Kernel := fun m g _ => Cert.Kernel.Hand.frame_main (F := Bits) m g
/-- The same under the claims' precondition. -/
theorem frame_kernel_pre : Cert.quiescent_Kernel_pre_finite_and_no_tie := fun m g _ => Cert.Kernel.Hand.frame_main (F := Bits) m g
/-- The kernel over the extended reals: the same. -/
theorem frame_kernelIdeal : Cert.quiescent_KernelIdeal := fun m g _ => Cert.KernelIdeal.Hand.frame_main (F := Ideal) m g
/-- The reference over the extended reals: the same. -/
theorem frame_reference : Cert.quiescent_ReferenceIdeal := fun m g _ =>
  (θ_run _ _ _).mono (fun _ h => ⟨fun c => (h.1 c).2.2.2.2, h.2⟩) (Cert.ReferenceIdeal.Hand.run_reads (F := Ideal) m g)

/-- The same under the claims' precondition. -/
theorem frame_reference_pre : Cert.quiescent_ReferenceIdeal_pre_finite_and_no_tie := fun m g _ =>
  (θ_run _ _ _).mono (fun _ h => ⟨fun c => (h.1 c).2.2.2.2, h.2⟩) (Cert.ReferenceIdeal.Hand.run_reads (F := Ideal) m g)

open Cert.KernelIdeal.Hand in
/-- Over the extended reals the kernel and the reference, from the same arguments, end with the same four results. -/
theorem algebraic : Cert.algebraic_KernelIdeal_ReferenceIdeal := fun m g m' g' hp ha => by
  have hf := fun c => Cert.Pre_finite_and_no_tie.Hand.finite _ _ (hp c)
  refine ⟨outK m, idxK m, lossK m, perpK m, (θ_run _ _ _).mono (fun r h => h.1) (run_reads (F := Ideal) m g),
    (θ_run _ _ _).mono (fun r h c => ?_) (Cert.ReferenceIdeal.Hand.run_reads (F := Ideal) m' g')⟩
  obtain ⟨h0, h1, h2, h3, h4, h5⟩ := h.1 c
  rw [(ha c).1, (ha c).2] at h0 h1 h2 h3
  exact ⟨h0.trans (Cert.Equal.out_same m c _ _ rfl rfl (hf c)).symm, h1.trans (Cert.Equal.idx_same m c _ _ rfl rfl (hf c)).symm,
    h2.trans (Cert.Equal.loss_same m c _ _ rfl rfl (hf c)).symm, h3.trans (Cert.Equal.perp_same m c _ _ rfl rfl (hf c)).symm, h4, h5⟩

/-- Everything that is claimed. -/
theorem claim : Cert.Claim := ⟨Cert.Kernel.Gen.facts, Cert.KernelIdeal.Gen.facts, Cert.ReferenceIdeal.Gen.facts, Cert.Pre_finite_and_no_tie.Gen.facts,
  frame_kernel, frame_kernel_pre, frame_kernelIdeal, frame_reference, frame_reference_pre, trivial, algebraic⟩

end Cert.Proof

end
